-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 128, 128, 64]⟩ ⟨4, ![2, 256, 256, 64]⟩ (Layout.meshBlock [2, 2] ![[], [0], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 128, 128, 64]⟩ ⟨4, ![2, 256, 256, 64]⟩ (Layout.meshBlock [2, 2] ![[], [0], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v94) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x128x64 : Shape := ⟨4, ![2, 128, 128, 64]⟩
abbrev S3x3x64 : Shape := ⟨3, ![3, 3, 64]⟩
abbrev S64x64 : Shape := ⟨2, ![64, 64]⟩
abbrev S_ : Shape := ⟨0, ![]⟩

class Facts : Prop where
  bitsLt_bf16_f32 : FTy.bits .bf16 < FTy.bits .f32
  bcast_S_S2x128x128x64 : S_.BroadcastsInDim S2x128x128x64 (![] : Fin 0 → Fin S2x128x128x64.rank)
  bcast_S_S3x3x64 : S_.BroadcastsInDim S3x3x64 (![] : Fin 0 → Fin S3x3x64.rank)

variable [Facts]

def fn {F : FTy → Type} [FloatOps F] (main_arg0 : FVec F S2x128x128x64 .bf16) (main_arg1 : FVec F S3x3x64 .bf16) (main_arg2 : FVec F S64x64 .bf16) : IVec S2x128x128x64 1 × IVec S3x3x64 1 :=
  let main_v0 : FVec F S2x128x128x64 .f32 := (extf .f32 · bitsLt_bf16_f32) main_arg0
  let main_v1 : FVec F S2x128x128x64 .f32 := Host.absf main_v0
  let main_cst : FVec F S_ .f32 := constant S_ .f32 0x7F800000#32
  let main_v2 : FVec F S2x128x128x64 .f32 := broadcastInDim S2x128x128x64 ![] bcast_S_S2x128x128x64 main_cst
  let main_v3 : IVec S2x128x128x64 1 := cmpf .olt main_v1 main_v2
  let main_v4 : FVec F S3x3x64 .f32 := (extf .f32 · bitsLt_bf16_f32) main_arg1
  let main_v5 : FVec F S3x3x64 .f32 := Host.absf main_v4
  let main_cst_0 : FVec F S_ .f32 := constant S_ .f32 0x7F800000#32
  let main_v6 : FVec F S3x3x64 .f32 := broadcastInDim S3x3x64 ![] bcast_S_S3x3x64 main_cst_0
  let main_v7 : IVec S3x3x64 1 := cmpf .olt main_v5 main_v6
  (main_v3, main_v7)
-- ==== Pre_finite_ReferenceIdeal.lean ====
abbrev S2x256x256x64 : Shape := ⟨4, ![2, 256, 256, 64]⟩
abbrev S3x3x64 : Shape := ⟨3, ![3, 3, 64]⟩
abbrev S64x64 : Shape := ⟨2, ![64, 64]⟩
abbrev S_ : Shape := ⟨0, ![]⟩

class Facts : Prop where
  bitsLt_bf16_f32 : FTy.bits .bf16 < FTy.bits .f32
  bcast_S_S2x256x256x64 : S_.BroadcastsInDim S2x256x256x64 (![] : Fin 0 → Fin S2x256x256x64.rank)
  bcast_S_S3x3x64 : S_.BroadcastsInDim S3x3x64 (![] : Fin 0 → Fin S3x3x64.rank)

variable [Facts]

def fn {F : FTy → Type} [FloatOps F] (main_arg0 : FVec F S2x256x256x64 .bf16) (main_arg1 : FVec F S3x3x64 .bf16) (main_arg2 : FVec F S64x64 .bf16) : IVec S2x256x256x64 1 × IVec S3x3x64 1 :=
  let main_v0 : FVec F S2x256x256x64 .f32 := (extf .f32 · bitsLt_bf16_f32) main_arg0
  let main_v1 : FVec F S2x256x256x64 .f32 := Host.absf main_v0
  let main_cst : FVec F S_ .f32 := constant S_ .f32 0x7F800000#32
  let main_v2 : FVec F S2x256x256x64 .f32 := broadcastInDim S2x256x256x64 ![] bcast_S_S2x256x256x64 main_cst
  let main_v3 : IVec S2x256x256x64 1 := cmpf .olt main_v1 main_v2
  let main_v4 : FVec F S3x3x64 .f32 := (extf .f32 · bitsLt_bf16_f32) main_arg1
  let main_v5 : FVec F S3x3x64 .f32 := Host.absf main_v4
  let main_cst_0 : FVec F S_ .f32 := constant S_ .f32 0x7F800000#32
  let main_v6 : FVec F S3x3x64 .f32 := broadcastInDim S3x3x64 ![] bcast_S_S3x3x64 main_cst_0
  let main_v7 : IVec S3x3x64 1 := cmpf .olt main_v5 main_v6
  (main_v3, main_v7)
-- ==== Kernel.lean ====
abbrev S2x128x128x64 : Shape := ⟨4, ![2, 128, 128, 64]⟩
abbrev S3x3x64 : Shape := ⟨3, ![3, 3, 64]⟩
abbrev S64x64 : Shape := ⟨2, ![64, 64]⟩
abbrev S1x128x128x64 : Shape := ⟨4, ![1, 128, 128, 64]⟩
abbrev S2x1x128x64 : Shape := ⟨4, ![2, 1, 128, 64]⟩
abbrev S2x1x64 : Shape := ⟨3, ![2, 1, 64]⟩
abbrev S2x4x2x64 : Shape := ⟨4, ![2, 4, 2, 64]⟩
abbrev S2x3 : Shape := ⟨2, ![2, 3]⟩
abbrev S_ : Shape := ⟨0, ![]⟩
abbrev S1x1x128x64 : Shape := ⟨4, ![1, 1, 128, 64]⟩
abbrev S1x128x64 : Shape := ⟨3, ![1, 128, 64]⟩
abbrev S1x128x1x64 : Shape := ⟨4, ![1, 128, 1, 64]⟩
abbrev S1x1x64 : Shape := ⟨3, ![1, 1, 64]⟩
abbrev S1x64 : Shape := ⟨2, ![1, 64]⟩
abbrev S1x1 : Shape := ⟨2, ![1, 1]⟩
abbrev S64 : Shape := ⟨1, ![64]⟩
abbrev S1x1x1x64 : Shape := ⟨4, ![1, 1, 1, 64]⟩
abbrev S1x1x2x64 : Shape := ⟨4, ![1, 1, 2, 64]⟩
abbrev S1x2x64 : Shape := ⟨3, ![1, 2, 64]⟩
abbrev S2x64 : Shape := ⟨2, ![2, 64]⟩
abbrev S1x130x128x64 : Shape := ⟨4, ![1, 130, 128, 64]⟩
abbrev S1x130x64 : Shape := ⟨3, ![1, 130, 64]⟩
abbrev S1x128x127x64 : Shape := ⟨4, ![1, 128, 127, 64]⟩
abbrev S16384x64 : Shape := ⟨2, ![16384, 64]⟩

abbrev nBuf : Space → Nat
  | .hbm => 4
  | .vmem => 13
  | .smem => 0
  | _ => 0

abbrev bufTy : (tb : Table) → Fin (tcTables nBuf tb) → BufTy
  | .hbm, ⟨0, _⟩ => ⟨S2x128x128x64, .bf16⟩
  | .hbm, ⟨1, _⟩ => ⟨S3x3x64, .bf16⟩
  | .hbm, ⟨2, _⟩ => ⟨S64x64, .bf16⟩
  | .hbm, ⟨3, _⟩ => ⟨S2x128x128x64, .bf16⟩
  | .local _ .vmem, ⟨0, _⟩ => ⟨S1x128x128x64, .bf16⟩
  | .local _ .vmem, ⟨1, _⟩ => ⟨S1x128x128x64, .bf16⟩
  | .local _ .vmem, ⟨2, _⟩ => ⟨S3x3x64, .bf16⟩
  | .local _ .vmem, ⟨3, _⟩ => ⟨S64x64, .bf16⟩
  | .local _ .vmem, ⟨4, _⟩ => ⟨S1x128x128x64, .bf16⟩
  | .local _ .vmem, ⟨5, _⟩ => ⟨S1x128x128x64, .bf16⟩
  | .local _ .vmem, ⟨6, _⟩ => ⟨S2x1x128x64, .bf16⟩
  | .local _ .vmem, ⟨7, _⟩ => ⟨S2x1x128x64, .bf16⟩
  | .local _ .vmem, ⟨8, _⟩ => ⟨S2x1x128x64, .bf16⟩
  | .local _ .vmem, ⟨9, _⟩ => ⟨S2x1x128x64, .bf16⟩
  | .local _ .vmem, ⟨10, _⟩ => ⟨S2x1x64, .bf16⟩
  | .local _ .vmem, ⟨11, _⟩ => ⟨S2x1x64, .bf16⟩
  | .local _ .vmem, ⟨12, _⟩ => ⟨S2x4x2x64, .f32⟩
  | _, _ => ⟨S2x128x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev barrier0 : Sem sig := 0

abbrev nD : Nat := 4
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_6 : BitVec 32 := 0#32
  let v13 : BitVec 1 := Scalar.cmpi .ne v12 c0_i32_6
  v13

def k0_dev1 (d0 : Dev nD) : Nat :=
  let c0_i32_107 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_106 : BitVec 32 := 2#32
  let v335 : BitVec 32 := Scalar.muli v6 c2_i32_106
  let v336 : BitVec 32 := Scalar.addi c0_i32_107 v335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v337 : BitVec 32 := Scalar.muli v5 c1_i32_108
  let v338 : BitVec 32 := Scalar.addi v336 v337
  v338.toNat
def k0_dev2 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v339 : BitVec 32 := Scalar.muli v2 c2_i32_110
  let v340 : BitVec 32 := Scalar.addi c0_i32_111 v339
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_112 : BitVec 32 := 1#32
  let v341 : BitVec 32 := Scalar.muli v7 c1_i32_112
  let v342 : BitVec 32 := Scalar.addi v340 v341
  v342.toNat
def k0_dev3 (d0 : Dev nD) : Nat :=
  let c0_i32_115 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_114 : BitVec 32 := 2#32
  let v343 : BitVec 32 := Scalar.muli v8 c2_i32_114
  let v344 : BitVec 32 := Scalar.addi c0_i32_115 v343
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_116 : BitVec 32 := 1#32
  let v345 : BitVec 32 := Scalar.muli v9 c1_i32_116
  let v346 : BitVec 32 := Scalar.addi v344 v345
  v346.toNat
def k0_off1 (i : grid0.Coords) : Fin 4 → Nat :=
  let arg0 : BitVec 32 := BitVec.ofNat 32 (i 0).val
  let v28 : Index := Scalar.indexCast arg0
  let c0_12 : Index := 0#32
  let c0_13 : Index := 0#32
  let c0_14 : Index := 0#32
  ![v28.toNat, 0, 0, 0]
def k0_off2 (i : grid0.Coords) : Fin 3 → Nat :=
  let arg0 : BitVec 32 := BitVec.ofNat 32 (i 0).val
  let v42 : Index := Scalar.indexCast arg0
  let c0_19 : Index := 0#32
  let c0_20 : Index := 0#32
  ![v42.toNat, 0, 0]
def k0_cond2 (i : grid0.Coords) : BitVec 1 :=
  let arg0 : BitVec 32 := BitVec.ofNat 32 (i 0).val
  let c0_i32_21 : BitVec 32 := 0#32
  let v46 : BitVec 1 := Scalar.cmpi .eq arg0 c0_i32_21
  let v47 : BitVec 32 := Scalar.extui v46
  let c0_i32_22 : BitVec 32 := 0#32
  let v48 : BitVec 1 := Scalar.cmpi .ne v47 c0_i32_22
  v48

def k0_dev4 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v335 : BitVec 32 := Scalar.muli v6 c2_i32_111
  let v336 : BitVec 32 := Scalar.addi c0_i32_112 v335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v337 : BitVec 32 := Scalar.muli v5 c1_i32_113
  let v338 : BitVec 32 := Scalar.addi v336 v337
  v338.toNat
def k0_dev5 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v347 : BitVec 32 := Scalar.muli v2 c2_i32_126
  let v348 : BitVec 32 := Scalar.addi c0_i32_127 v347
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_128 : BitVec 32 := 1#32
  let v349 : BitVec 32 := Scalar.muli v7 c1_i32_128
  let v350 : BitVec 32 := Scalar.addi v348 v349
  v350.toNat
def k0_dev6 (d0 : Dev nD) : Nat :=
  let c0_i32_142 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_141 : BitVec 32 := 2#32
  let v359 : BitVec 32 := Scalar.muli v8 c2_i32_141
  let v360 : BitVec 32 := Scalar.addi c0_i32_142 v359
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_143 : BitVec 32 := 1#32
  let v361 : BitVec 32 := Scalar.muli v9 c1_i32_143
  let v362 : BitVec 32 := Scalar.addi v360 v361
  v362.toNat
def k0_cond3 (i : grid0.Coords) : BitVec 1 :=
  let arg0 : BitVec 32 := BitVec.ofNat 32 (i 0).val
  let c1_i32_23 : BitVec 32 := 1#32
  let v49 : BitVec 1 := Scalar.cmpi .eq arg0 c1_i32_23
  let v50 : BitVec 32 := Scalar.extui v49
  let c0_i32_24 : BitVec 32 := 0#32
  let v51 : BitVec 1 := Scalar.cmpi .ne v50 c0_i32_24
  v51

def k0_dev7 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v335 : BitVec 32 := Scalar.muli v6 c2_i32_111
  let v336 : BitVec 32 := Scalar.addi c0_i32_112 v335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v337 : BitVec 32 := Scalar.muli v5 c1_i32_113
  let v338 : BitVec 32 := Scalar.addi v336 v337
  v338.toNat
def k0_dev8 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v347 : BitVec 32 := Scalar.muli v2 c2_i32_126
  let v348 : BitVec 32 := Scalar.addi c0_i32_127 v347
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_128 : BitVec 32 := 1#32
  let v349 : BitVec 32 := Scalar.muli v7 c1_i32_128
  let v350 : BitVec 32 := Scalar.addi v348 v349
  v350.toNat
def k0_dev9 (d0 : Dev nD) : Nat :=
  let c0_i32_142 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_141 : BitVec 32 := 2#32
  let v359 : BitVec 32 := Scalar.muli v8 c2_i32_141
  let v360 : BitVec 32 := Scalar.addi c0_i32_142 v359
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_143 : BitVec 32 := 1#32
  let v361 : BitVec 32 := Scalar.muli v9 c1_i32_143
  let v362 : BitVec 32 := Scalar.addi v360 v361
  v362.toNat
def k0_off3 (i : grid0.Coords) : Fin 4 → Nat :=
  let arg0 : BitVec 32 := BitVec.ofNat 32 (i 0).val
  let v54 : Index := Scalar.indexCast arg0
  let c3 : Index := 3#32
  let c0_25 : Index := 0#32
  let c0_26 : Index := 0#32
  ![v54.toNat, 3, 0, 0]
def k0_off4 (i : grid0.Coords) : Fin 4 → Nat :=
  let arg0 : BitVec 32 := BitVec.ofNat 32 (i 0).val
  let v61 : Index := Scalar.indexCast arg0
  let c3_28 : Index := 3#32
  let c1 : Index := 1#32
  let c0_29 : Index := 0#32
  ![v61.toNat, 3, 1, 0]
def k0_cond4 (i : grid0.Coords) : BitVec 1 :=
  let arg0 : BitVec 32 := BitVec.ofNat 32 (i 0).val
  let c0_i32_30 : BitVec 32 := 0#32
  let v65 : BitVec 1 := Scalar.cmpi .eq arg0 c0_i32_30
  let v66 : BitVec 32 := Scalar.extui v65
  let c0_i32_31 : BitVec 32 := 0#32
  let v67 : BitVec 1 := Scalar.cmpi .ne v66 c0_i32_31
  v67

def k0_dev10 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v335 : BitVec 32 := Scalar.muli v6 c2_i32_111
  let v336 : BitVec 32 := Scalar.addi c0_i32_112 v335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v337 : BitVec 32 := Scalar.muli v5 c1_i32_113
  let v338 : BitVec 32 := Scalar.addi v336 v337
  v338.toNat
def k0_dev11 (d0 : Dev nD) : Nat :=
  let c0_i32_126 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_125 : BitVec 32 := 2#32
  let v347 : BitVec 32 := Scalar.muli v2 c2_i32_125
  let v348 : BitVec 32 := Scalar.addi c0_i32_126 v347
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_127 : BitVec 32 := 1#32
  let v349 : BitVec 32 := Scalar.muli v7 c1_i32_127
  let v350 : BitVec 32 := Scalar.addi v348 v349
  v350.toNat
def k0_dev12 (d0 : Dev nD) : Nat :=
  let c0_i32_141 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_140 : BitVec 32 := 2#32
  let v359 : BitVec 32 := Scalar.muli v8 c2_i32_140
  let v360 : BitVec 32 := Scalar.addi c0_i32_141 v359
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_142 : BitVec 32 := 1#32
  let v361 : BitVec 32 := Scalar.muli v9 c1_i32_142
  let v362 : BitVec 32 := Scalar.addi v360 v361
  v362.toNat
def k0_cond5 (i : grid0.Coords) : BitVec 1 :=
  let arg0 : BitVec 32 := BitVec.ofNat 32 (i 0).val
  let c1_i32_32 : BitVec 32 := 1#32
  let v68 : BitVec 1 := Scalar.cmpi .eq arg0 c1_i32_32
  let v69 : BitVec 32 := Scalar.extui v68
  let c0_i32_33 : BitVec 32 := 0#32
  let v70 : BitVec 1 := Scalar.cmpi .ne v69 c0_i32_33
  v70

def k0_dev13 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v335 : BitVec 32 := Scalar.muli v6 c2_i32_111
  let v336 : BitVec 32 := Scalar.addi c0_i32_112 v335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v337 : BitVec 32 := Scalar.muli v5 c1_i32_113
  let v338 : BitVec 32 := Scalar.addi v336 v337
  v338.toNat
def k0_dev14 (d0 : Dev nD) : Nat :=
  let c0_i32_126 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_125 : BitVec 32 := 2#32
  let v347 : BitVec 32 := Scalar.muli v2 c2_i32_125
  let v348 : BitVec 32 := Scalar.addi c0_i32_126 v347
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_127 : BitVec 32 := 1#32
  let v349 : BitVec 32 := Scalar.muli v7 c1_i32_127
  let v350 : BitVec 32 := Scalar.addi v348 v349
  v350.toNat
def k0_dev15 (d0 : Dev nD) : Nat :=
  let c0_i32_141 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_140 : BitVec 32 := 2#32
  let v359 : BitVec 32 := Scalar.muli v8 c2_i32_140
  let v360 : BitVec 32 := Scalar.addi c0_i32_141 v359
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_142 : BitVec 32 := 1#32
  let v361 : BitVec 32 := Scalar.muli v9 c1_i32_142
  let v362 : BitVec 32 := Scalar.addi v360 v361
  v362.toNat
def k0_off5 (i : grid0.Coords) : Fin 4 → Nat :=
  let arg0 : BitVec 32 := BitVec.ofNat 32 (i 0).val
  let v149 : Index := Scalar.indexCast arg0
  let c0_70 : Index := 0#32
  let c0_71 : Index := 0#32
  let c0_72 : Index := 0#32
  ![v149.toNat, 0, 0, 0]
def k0_off6 (i : grid0.Coords) : Fin 4 → Nat :=
  let arg0 : BitVec 32 := BitVec.ofNat 32 (i 0).val
  let v152 : Index := Scalar.indexCast arg0
  let c1_73 : Index := 1#32
  let c0_74 : Index := 0#32
  let c0_75 : Index := 0#32
  ![v152.toNat, 1, 0, 0]
def k0_off7 (i : grid0.Coords) : Fin 4 → Nat :=
  let arg0 : BitVec 32 := BitVec.ofNat 32 (i 0).val
  let v156 : Index := Scalar.indexCast arg0
  let c2 : Index := 2#32
  let c0_76 : Index := 0#32
  let c0_77 : Index := 0#32
  ![v156.toNat, 2, 0, 0]
def k0_off8 (i : grid0.Coords) : Fin 4 → Nat :=
  let arg0 : BitVec 32 := BitVec.ofNat 32 (i 0).val
  let v160 : Index := Scalar.indexCast arg0
  let c3_78 : Index := 3#32
  let c0_79 : Index := 0#32
  let c0_80 : Index := 0#32
  ![v160.toNat, 3, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x256x256x64 : Shape := ⟨4, ![2, 256, 256, 64]⟩
abbrev S3x3x64 : Shape := ⟨3, ![3, 3, 64]⟩
abbrev S64x64 : Shape := ⟨2, ![64, 64]⟩
abbrev S_ : Shape := ⟨0, ![]⟩
abbrev S2x64 : Shape := ⟨2, ![2, 64]⟩
abbrev S2x1x1x64 : Shape := ⟨4, ![2, 1, 1, 64]⟩
abbrev S2x1x256x64 : Shape := ⟨4, ![2, 1, 256, 64]⟩
abbrev S2x258x256x64 : Shape := ⟨4, ![2, 258, 256, 64]⟩
abbrev S2x258x1x64 : Shape := ⟨4, ![2, 258, 1, 64]⟩
abbrev S2x258x258x64 : Shape := ⟨4, ![2, 258, 258, 64]⟩
abbrev S1x1x64 : Shape := ⟨3, ![1, 1, 64]⟩
abbrev S64 : Shape := ⟨1, ![64]⟩
abbrev S1x1x1x64 : Shape := ⟨4, ![1, 1, 1, 64]⟩
abbrev S131072x64 : Shape := ⟨2, ![131072, 64]⟩

abbrev nBuf : Space → Nat
  | .hbm => 126
  | .vmem => 0
  | .smem => 0
  | _ => 0

abbrev bufTy : (tb : Table) → Fin (tcTables nBuf tb) → BufTy
  | .hbm, ⟨0, _⟩ => ⟨S2x256x256x64, .bf16⟩
  | .hbm, ⟨1, _⟩ => ⟨S3x3x64, .bf16⟩
  | .hbm, ⟨2, _⟩ => ⟨S64x64, .bf16⟩
  | .hbm, ⟨3, _⟩ => ⟨S2x256x256x64, .f32⟩
  | .hbm, ⟨4, _⟩ => ⟨S3x3x64, .f32⟩
  | .hbm, ⟨5, _⟩ => ⟨S64x64, .f32⟩
  | .hbm, ⟨6, _⟩ => ⟨S_, .f32⟩
  | .hbm, ⟨7, _⟩ => ⟨S2x64, .f32⟩
  | .hbm, ⟨8, _⟩ => ⟨S2x1x1x64, .f32⟩
  | .hbm, ⟨9, _⟩ => ⟨S_, .f32⟩
  | .hbm, ⟨10, _⟩ => ⟨S2x1x1x64, .f32⟩
  | .hbm, ⟨11, _⟩ => ⟨S2x1x1x64, .f32⟩
  | .hbm, ⟨12, _⟩ => ⟨S_, .i32⟩
  | .hbm, ⟨13, _⟩ => ⟨S_, .f32⟩
  | .hbm, ⟨14, _⟩ => ⟨S2x64, .f32⟩
  | .hbm, ⟨15, _⟩ => ⟨S2x1x1x64, .f32⟩
  | .hbm, ⟨16, _⟩ => ⟨S_, .f32⟩
  | .hbm, ⟨17, _⟩ => ⟨S2x1x1x64, .f32⟩
  | .hbm, ⟨18, _⟩ => ⟨S2x1x1x64, .f32⟩
  | .hbm, ⟨19, _⟩ => ⟨S2x256x256x64, .f32⟩
  | .hbm, ⟨20, _⟩ => ⟨S2x256x256x64, .f32⟩
  | .hbm, ⟨21, _⟩ => ⟨S2x256x256x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x64, .f32⟩
  | .hbm, ⟨27, _⟩ => ⟨S2x1x1x64, .f32⟩
  | .hbm, ⟨28, _⟩ => ⟨S2x1x1x64, .f32⟩
  | .hbm, ⟨29, _⟩ => ⟨S2x1x1x64, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S2x1x1x64, .f32⟩
  | .hbm, ⟨35, _⟩ => ⟨S2x1x1x64, .f32⟩
  | .hbm, ⟨36, _⟩ => ⟨S2x256x256x64, .f32⟩
  | .hbm, ⟨37, _⟩ => ⟨S2x256x256x64, .f32⟩
  | .hbm, ⟨38, _⟩ => ⟨S_, .f32⟩
  | .hbm, ⟨39, _⟩ => ⟨S2x1x1x64, .f32⟩
  | .hbm, ⟨40, _⟩ => ⟨S2x1x1x64, .f32⟩
  | .hbm, ⟨41, _⟩ => ⟨S2x1x1x64, .f32⟩
  | .hbm, ⟨42, _⟩ => ⟨S2x256x256x64, .f32⟩
  | .hbm, ⟨43, _⟩ => ⟨S2x256x256x64, .f32⟩
  | .hbm, ⟨44, _⟩ => ⟨S2x1x256x64, .f32⟩
  | .hbm, ⟨45, _⟩ => ⟨S2x1x256x64, .f32⟩
  | .hbm, ⟨46, _⟩ => ⟨S2x258x256x64, .f32⟩
  | .hbm, ⟨47, _⟩ => ⟨S2x258x1x64, .f32⟩
  | .hbm, ⟨48, _⟩ => ⟨S2x258x1x64, .f32⟩
  | .hbm, ⟨49, _⟩ => ⟨S2x258x258x64, .f32⟩
  | .hbm, ⟨50, _⟩ => ⟨S_, .f32⟩
  | .hbm, ⟨51, _⟩ => ⟨S2x256x256x64, .f32⟩
  | .hbm, ⟨52, _⟩ => ⟨S2x256x256x64, .f32⟩
  | .hbm, ⟨53, _⟩ => ⟨S1x1x64, .f32⟩
  | .hbm, ⟨54, _⟩ => ⟨S64, .f32⟩
  | .hbm, ⟨55, _⟩ => ⟨S1x1x1x64, .f32⟩
  | .hbm, ⟨56, _⟩ => ⟨S2x256x256x64, .f32⟩
  | .hbm, ⟨57, _⟩ => ⟨S2x256x256x64, .f32⟩
  | .hbm, ⟨58, _⟩ => ⟨S2x256x256x64, .f32⟩
  | .hbm, ⟨59, _⟩ => ⟨S2x256x256x64, .f32⟩
  | .hbm, ⟨60, _⟩ => ⟨S1x1x64, .f32⟩
  | .hbm, ⟨61, _⟩ => ⟨S64, .f32⟩
  | .hbm, ⟨62, _⟩ => ⟨S1x1x1x64, .f32⟩
  | .hbm, ⟨63, _⟩ => ⟨S2x256x256x64, .f32⟩
  | .hbm, ⟨64, _⟩ => ⟨S2x256x256x64, .f32⟩
  | .hbm, ⟨65, _⟩ => ⟨S2x256x256x64, .f32⟩
  | .hbm, ⟨66, _⟩ => ⟨S2x256x256x64, .f32⟩
  | .hbm, ⟨67, _⟩ => ⟨S1x1x64, .f32⟩
  | .hbm, ⟨68, _⟩ => ⟨S64, .f32⟩
  | .hbm, ⟨69, _⟩ => ⟨S1x1x1x64, .f32⟩
  | .hbm, ⟨70, _⟩ => ⟨S2x256x256x64, .f32⟩
  | .hbm, ⟨71, _⟩ => ⟨S2x256x256x64, .f32⟩
  | .hbm, ⟨72, _⟩ => ⟨S2x256x256x64, .f32⟩
  | .hbm, ⟨73, _⟩ => ⟨S2x256x256x64, .f32⟩
  | .hbm, ⟨74, _⟩ => ⟨S1x1x64, .f32⟩
  | .hbm, ⟨75, _⟩ => ⟨S64, .f32⟩
  | .hbm, ⟨76, _⟩ => ⟨S1x1x1x64, .f32⟩
  | .hbm, ⟨77, _⟩ => ⟨S2x256x256x64, .f32⟩
  | .hbm, ⟨78, _⟩ => ⟨S2x256x256x64, .f32⟩
  | .hbm, ⟨79, _⟩ => ⟨S2x256x256x64, .f32⟩
  | .hbm, ⟨80, _⟩ => ⟨S2x256x256x64, .f32⟩
  | .hbm, ⟨81, _⟩ => ⟨S1x1x64, .f32⟩
  | .hbm, ⟨82, _⟩ => ⟨S64, .f32⟩
  | .hbm, ⟨83, _⟩ => ⟨S1x1x1x64, .f32⟩
  | .hbm, ⟨84, _⟩ => ⟨S2x256x256x64, .f32⟩
  | .hbm, ⟨85, _⟩ => ⟨S2x256x256x64, .f32⟩
  | .hbm, ⟨86, _⟩ => ⟨S2x256x256x64, .f32⟩
  | .hbm, ⟨87, _⟩ => ⟨S2x256x256x64, .f32⟩
  | .hbm, ⟨88, _⟩ => ⟨S1x1x64, .f32⟩
  | .hbm, ⟨89, _⟩ => ⟨S64, .f32⟩
  | .hbm, ⟨90, _⟩ => ⟨S1x1x1x64, .f32⟩
  | .hbm, ⟨91, _⟩ => ⟨S2x256x256x64, .f32⟩
  | .hbm, ⟨92, _⟩ => ⟨S2x256x256x64, .f32⟩
  | .hbm, ⟨93, _⟩ => ⟨S2x256x256x64, .f32⟩
  | .hbm, ⟨94, _⟩ => ⟨S2x256x256x64, .f32⟩
  | .hbm, ⟨95, _⟩ => ⟨S1x1x64, .f32⟩
  | .hbm, ⟨96, _⟩ => ⟨S64, .f32⟩
  | .hbm, ⟨97, _⟩ => ⟨S1x1x1x64, .f32⟩
  | .hbm, ⟨98, _⟩ => ⟨S2x256x256x64, .f32⟩
  | .hbm, ⟨99, _⟩ => ⟨S2x256x256x64, .f32⟩
  | .hbm, ⟨100, _⟩ => ⟨S2x256x256x64, .f32⟩
  | .hbm, ⟨101, _⟩ => ⟨S2x256x256x64, .f32⟩
  | .hbm, ⟨102, _⟩ => ⟨S1x1x64, .f32⟩
  | .hbm, ⟨103, _⟩ => ⟨S64, .f32⟩
  | .hbm, ⟨104, _⟩ => ⟨S1x1x1x64, .f32⟩
  | .hbm, ⟨105, _⟩ => ⟨S2x256x256x64, .f32⟩
  | .hbm, ⟨106, _⟩ => ⟨S2x256x256x64, .f32⟩
  | .hbm, ⟨107, _⟩ => ⟨S2x256x256x64, .f32⟩
  | .hbm, ⟨108, _⟩ => ⟨S2x256x256x64, .f32⟩
  | .hbm, ⟨109, _⟩ => ⟨S1x1x64, .f32⟩
  | .hbm, ⟨110, _⟩ => ⟨S64, .f32⟩
  | .hbm, ⟨111, _⟩ => ⟨S1x1x1x64, .f32⟩
  | .hbm, ⟨112, _⟩ => ⟨S2x256x256x64, .f32⟩
  | .hbm, ⟨113, _⟩ => ⟨S2x256x256x64, .f32⟩
  | .hbm, ⟨114, _⟩ => ⟨S2x256x256x64, .f32⟩
  | .hbm, ⟨115, _⟩ => ⟨S2x256x256x64, .f32⟩
  | .hbm, ⟨116, _⟩ => ⟨S2x256x256x64, .f32⟩
  | .hbm, ⟨117, _⟩ => ⟨S_, .f32⟩
  | .hbm, ⟨118, _⟩ => ⟨S2x256x256x64, .f32⟩
  | .hbm, ⟨119, _⟩ => ⟨S2x256x256x64, .f32⟩
  | .hbm, ⟨120, _⟩ => ⟨S2x256x256x64, .f32⟩
  | .hbm, ⟨121, _⟩ => ⟨S131072x64, .f32⟩
  | .hbm, ⟨122, _⟩ => ⟨S131072x64, .f32⟩
  | .hbm, ⟨123, _⟩ => ⟨S2x256x256x64, .f32⟩
  | .hbm, ⟨124, _⟩ => ⟨S2x256x256x64, .f32⟩
  | .hbm, ⟨125, _⟩ => ⟨S2x256x256x64, .bf16⟩
  | _, _ => ⟨S2x256x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_3 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Proof.Slots.lean ====
/-
# The halo exchange and the reduction, seen as twelve channels

The kernel runs on a two by two mesh. A device sits at place `(x, y)` of the mesh and its number is
`2 x + y`. At each of its two steps it sends six blocks: its edge row to the device across `x`, its edge
column to the device across `y`, its corner to the device across both, and its two channel sums to all
three. A block goes from a slot of one of the sender's scratch buffers to a slot of one of the
receiver's. This module names the devices, the six kinds of block, and the slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.MemrefSat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The mesh -/

/-- The three ways to leave a device: across `x`, across `y`, across both. -/
inductive Pr | x | y | d
  deriving DecidableEq

instance : Fintype Pr := ⟨{.x, .y, .d}, fun p => by cases p <;> decide⟩

set_option backward.proofsInPublic true in
/-- The device across `x`: the other row of the mesh. -/
def px (c : Dev nD) : Dev nD := ⟨(c.val + 2) % 4, Nat.mod_lt _ (by decide)⟩
set_option backward.proofsInPublic true in
/-- The device across `y`: the other place of the row. -/
def py (c : Dev nD) : Dev nD := ⟨2 * (c.val / 2) + (1 - c.val % 2), by have := c.isLt; have : nD = 4 := rfl; omega⟩
set_option backward.proofsInPublic true in
/-- The device across both. -/
def pd (c : Dev nD) : Dev nD := ⟨3 - c.val, by have : nD = 4 := rfl; omega⟩

def pr : Pr → Dev nD → Dev nD
  | .x => px
  | .y => py
  | .d => pd

theorem pr_pr (p : Pr) (c : Dev nD) : pr p (pr p c) = c := by cases p <;> revert c <;> decide

/-- Going across is its own inverse. -/
def prEquiv (p : Pr) : Dev nD ≃ Dev nD := ⟨pr p, pr p, pr_pr p, pr_pr p⟩

theorem devx_eq {n : ℕ} (c : Dev nD) (h : n < nD) (e : n = ((c.val % 2) + 2) - 2 * (c.val / 2)) : (⟨n, h⟩ : Dev nD) = pr .x c := by
  subst e; revert c; decide
theorem devy_eq {n : ℕ} (c : Dev nD) (h : n < nD) (e : n = (2 * (c.val / 2) + 1) - (c.val % 2)) : (⟨n, h⟩ : Dev nD) = pr .y c := by
  subst e; revert c; decide
theorem devd_eq {n : ℕ} (c : Dev nD) (h : n < nD) (e : n = 3 - (2 * (c.val / 2) + (c.val % 2))) : (⟨n, h⟩ : Dev nD) = pr .d c := by
  subst e; revert c; decide

/-! ## The kinds of block -/

/-- Edge row, edge column, corner; and the channel sums to each of the three devices. -/
inductive Kd | hx | hy | hd | rx | ry | rd
  deriving DecidableEq

instance : Fintype Kd := ⟨{.hx, .hy, .hd, .rx, .ry, .rd}, fun k => by cases k <;> decide⟩

/-- Where a block of the kind goes. -/
def Kd.to : Kd → Pr
  | .hx => .x | .hy => .y | .hd => .d | .rx => .x | .ry => .y | .rd => .d

/-- The halo block that goes there, -/
def Pr.halo : Pr → Kd | .x => .hx | .y => .hy | .d => .hd
/-- and the channel sums that go there. -/
def Pr.red : Pr → Kd | .x => .rx | .y => .ry | .d => .rd

/-- The device a block of the kind goes to (and comes from). -/
abbrev peer (k : Kd) (c : Dev nD) : Dev nD := pr k.to c

theorem peer_peer (k : Kd) (c : Dev nD) : peer k (peer k c) = c := pr_pr _ c

/-! ## The slots -/

@[reducible] def slSh : Kd → Shape
  | .hx => S1x1x128x64 | .hy => S1x1x128x64 | .hd => S1x1x64 | .rx => S1x1x2x64 | .ry => S1x1x2x64 | .rd => S1x1x2x64
@[reducible] def slE : Kd → EltTy
  | .hx => .bf16 | .hy => .bf16 | .hd => .bf16 | .rx => .f32 | .ry => .f32 | .rd => .f32
@[reducible] def sqSh : Kd → Shape
  | .hx => S1x128x64 | .hy => S1x128x64 | .hd => S1x64 | .rx => S1x2x64 | .ry => S1x2x64 | .rd => S1x2x64

theorem sq : (k : Kd) → (slSh k).Squeezes (sqSh k)
  | .hx => squeezes_S1x1x128x64_S1x128x64
  | .hy => squeezes_S1x1x128x64_S1x128x64
  | .hd => squeezes_S1x1x64_S1x64
  | .rx => squeezes_S1x1x2x64_S1x2x64
  | .ry => squeezes_S1x1x2x64_S1x2x64
  | .rd => squeezes_S1x1x2x64_S1x2x64

theorem inbL (i : Fin 2) : ∀ a, (![i.val, 0, 0, 0] : Fin 4 → ℕ) a + S1x1x128x64.size a ≤ S2x1x128x64.size a := by
  revert i; decide
theorem inbC (i : Fin 2) : ∀ a, (![i.val, 0, 0] : Fin 3 → ℕ) a + S1x1x64.size a ≤ S2x1x64.size a := by
  revert i; decide
theorem inbR (i : Fin 2) (s : Fin 4) : ∀ a, (![i.val, s.val, 0, 0] : Fin 4 → ℕ) a + S1x1x2x64.size a ≤ S2x4x2x64.size a := by
  revert i s; decide

/-- Step `i`'s row or column slot of a buffer of two, -/
abbrev lineSlot (b : Memref sig .tc .vmem S2x1x128x64 .bf16) (i : Fin 2) : Memref sig .tc .vmem S1x1x128x64 .bf16 :=
  b.slice (Rect.unit (s := S2x1x128x64) ![i.val, 0, 0, 0] S1x1x128x64.size (inbL i)) (fun _ => rfl)
/-- step `i`'s corner slot, -/
abbrev cornSlot (b : Memref sig .tc .vmem S2x1x64 .bf16) (i : Fin 2) : Memref sig .tc .vmem S1x1x64 .bf16 :=
  b.slice (Rect.unit (s := S2x1x64) ![i.val, 0, 0] S1x1x64.size (inbC i)) (fun _ => rfl)
/-- step `i`'s slot `s` of the channel sums: `0`, `1`, `2` take the sums of the devices across `x`, `y` and both,
    `3` holds the device's own. -/
abbrev redSlot (b : Memref sig .tc .vmem S2x4x2x64 .f32) (i : Fin 2) (s : Fin 4) : Memref sig .tc .vmem S1x1x2x64 .f32 :=
  b.slice (Rect.unit (s := S2x4x2x64) ![i.val, s.val, 0, 0] S1x1x2x64.size (inbR i s)) (fun _ => rfl)

/-- The slot a block of the kind is sent from at step `i`, -/
@[reducible] def srcSlot (i : Fin 2) : (k : Kd) → Memref sig .tc .vmem (slSh k) (slE k)
  | .hx => lineSlot (Memref.whole cc0_scratch0) i
  | .hy => lineSlot (Memref.whole cc0_scratch2) i
  | .hd => cornSlot (Memref.whole cc0_scratch4) i
  | .rx => redSlot (Memref.whole cc0_scratch6) i 3
  | .ry => redSlot (Memref.whole cc0_scratch6) i 3
  | .rd => redSlot (Memref.whole cc0_scratch6) i 3

/-- and the slot it lands in. -/
@[reducible] def dstSlot (i : Fin 2) : (k : Kd) → Memref sig .tc .vmem (slSh k) (slE k)
  | .hx => lineSlot (Memref.whole cc0_scratch1) i
  | .hy => lineSlot (Memref.whole cc0_scratch3) i
  | .hd => cornSlot (Memref.whole cc0_scratch5) i
  | .rx => redSlot (Memref.whole cc0_scratch6) i 0
  | .ry => redSlot (Memref.whole cc0_scratch6) i 1
  | .rd => redSlot (Memref.whole cc0_scratch6) i 2

/-! ## The semaphores -/

/-- The runtime's barrier semaphore. -/
abbrev barS : Sem sig := (SemArray.scalar (sig.barrier 0 rfl) : Sems sig S_).sem

theorem dmaSem_lt (i : Fin 2) (b : ℕ) (h : b ≤ 26) : b + 3 * i.val < 30 := by have := i.isLt; omega

set_option backward.proofsInPublic true in
/-- The semaphore a block of the kind raises at its sender when it has left, at step `i`, -/
def sS (i : Fin 2) : Kd → DmaSem sig
  | .hx => ⟨6 + 3 * i.val, dmaSem_lt i _ (by decide)⟩ | .hy => ⟨7 + 3 * i.val, dmaSem_lt i _ (by decide)⟩
  | .hd => ⟨8 + 3 * i.val, dmaSem_lt i _ (by decide)⟩ | .rx => ⟨18 + 3 * i.val, dmaSem_lt i _ (by decide)⟩
  | .ry => ⟨19 + 3 * i.val, dmaSem_lt i _ (by decide)⟩ | .rd => ⟨20 + 3 * i.val, dmaSem_lt i _ (by decide)⟩
set_option backward.proofsInPublic true in
/-- and the one it raises at its receiver when it has landed. -/
def sR (i : Fin 2) : Kd → DmaSem sig
  | .hx => ⟨12 + 3 * i.val, dmaSem_lt i _ (by decide)⟩ | .hy => ⟨13 + 3 * i.val, dmaSem_lt i _ (by decide)⟩
  | .hd => ⟨14 + 3 * i.val, dmaSem_lt i _ (by decide)⟩ | .rx => ⟨24 + 3 * i.val, dmaSem_lt i _ (by decide)⟩
  | .ry => ⟨25 + 3 * i.val, dmaSem_lt i _ (by decide)⟩ | .rd => ⟨26 + 3 * i.val, dmaSem_lt i _ (by decide)⟩

/-- What a semaphore is for. -/
inductive Role
  | bar
  | snd (i : Fin 2) (k : Kd)
  | rcv (i : Fin 2) (k : Kd)
  | stage
  deriving DecidableEq

/-- The roles of the DMA semaphores, by number. -/
def roleTab : Fin 30 → Role :=
  ![.stage, .stage, .stage, .stage, .stage, .stage,
    .snd 0 .hx, .snd 0 .hy, .snd 0 .hd, .snd 1 .hx, .snd 1 .hy, .snd 1 .hd,
    .rcv 0 .hx, .rcv 0 .hy, .rcv 0 .hd, .rcv 1 .hx, .rcv 1 .hy, .rcv 1 .hd,
    .snd 0 .rx, .snd 0 .ry, .snd 0 .rd, .snd 1 .rx, .snd 1 .ry, .snd 1 .rd,
    .rcv 0 .rx, .rcv 0 .ry, .rcv 0 .rd, .rcv 1 .rx, .rcv 1 .ry, .rcv 1 .rd]

def role : SemLoc sig → Role
  | .reg _ => .bar
  | .dma q => roleTab q

theorem role_bar : role (.reg barS) = .bar := rfl
theorem role_sS (i : Fin 2) (k : Kd) : role (.dma (sS i k)) = .snd i k := by
  cases k <;> revert i <;> decide
theorem role_sR (i : Fin 2) (k : Kd) : role (.dma (sR i k)) = .rcv i k := by
  cases k <;> revert i <;> decide

/-- The units a block of the kind raises its two semaphores by. -/
def amt (i : Fin 2) (k : Kd) : ℕ := ((dstSlot i k).squeeze (sqSh k) (sq k)).view.dmaCredit

theorem amt_pos (i : Fin 2) (k : Kd) : 0 < amt i k := by
  unfold amt; cases k <;> exact View.dmaCredit_pos _ (by decide)

end Cert.KernelIdealProof

end
-- ==== Proof.Schedule.lean ====
/-
# The protocol

The cells of the exchange are, on every device: the runtime's barrier semaphore, and for each step and each kind of
block one semaphore that says the block has left and one that says it has landed.

* Barrier cell of device `c`: each of the three other devices raises it by one before the first step, and hands over
  the slots of its own that `c` will write: both steps' landing slots for the halo block and for the channel sums that
  go from `c` to that device. `c` waits for three.
* "Left" cell: the sender's own transfer raises it by the block's units and hands the source slot back, with the contents
  it was sent with.
* "Landed" cell: the transfer from the peer raises it by the block's units and hands over the landing slot, holding
  the peer's block.

Each cell has one round. Levels: leaving and staging semaphores 0, barrier 1, landing of step `i` at `2 + i`.
-/
module

public import proofs.«01_k».proof.Proof.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging copies' part and the exchange's -/

abbrev UB : Type := URounds (GSem nD τ sig) Pr
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## The contents of the blocks -/

theorem cfg0_N : cfg0.N = 2 := N_0

/-- The grid point of step `i`. -/
def pt (i : Fin 2) : Fin cfg0.N := ⟨i.val, by rw [cfg0_N]; exact i.isLt⟩

/-- Device `c`'s block of `x` at step `i`, -/
def xblk (c : Dev nD) (i : Fin 2) : Vec F S1x128x128x64 .bf16 :=
  ((cfg0.win 0).blk (pt i)).view.read (Elt F) (m ((c : Thread nD τ).loc main_arg0))
/-- the depthwise weights, -/
def kblk (c : Dev nD) (i : Fin 2) : Vec F S3x3x64 .bf16 :=
  ((cfg0.win 1).blk (pt i)).view.read (Elt F) (m ((c : Thread nD τ).loc main_arg1))
/-- the projection. -/
def wblk (c : Dev nD) (i : Fin 2) : Vec F S64x64 .bf16 :=
  ((cfg0.win 2).blk (pt i)).view.read (Elt F) (m ((c : Thread nD τ).loc main_arg2))

/-- The device's place in its row, as the kernel computes it: the word of `c mod 2`. -/
abbrev colW (c : Dev nD) : BitVec 32 := Scalar.remsi (Scalar.divsi (Dev.word c) 1#32) 2#32
/-- The device's row, as the kernel computes it: the word of `c / 2`. -/
abbrev rowW (c : Dev nD) : BitVec 32 := Scalar.remsi (Scalar.divsi (Dev.word c) 2#32) 2#32

/-- The index of channel `n` in a row of channel sums. -/
def lane (n : Fin 64) : S1x1x1x64.Idx
  | 0 => ⟨0, by decide⟩ | 1 => ⟨0, by decide⟩ | 2 => ⟨0, by decide⟩ | 3 => n

/-- The channel sums a device sends: the sums of its block in the first row, of its squares in the second. -/
def redOut (x : Vec F S1x128x128x64 .bf16) : Vec F S1x1x2x64 .f32 := fun y =>
  if (y 2).val = 0 then k0_pay8 (k0_pay2 x) (lane (y 3)) else k0_pay9 (k0_pay2 x) (lane (y 3))

/-- The block of each kind a device sends, of its block of `x`. -/
@[reducible] def outOf (c : Dev nD) (x : Vec F S1x128x128x64 .bf16) : (k : Kd) → (slSh k).Idx → Elt F (slE k)
  | .hx => k0_pay5 c x
  | .hy => k0_pay6 (k0_pay4 c x)
  | .hd => k0_pay7 (colW c) (k0_pay3 c x)
  | .rx => redOut x
  | .ry => redOut x
  | .rd => redOut x

/-- The block of the kind device `c` sends at step `i`. -/
def sent (c : Dev nD) (i : Fin 2) (k : Kd) : (slSh k).Idx → Elt F (slE k) := outOf c (xblk m c i) k

/-! ## The cells -/

abbrev barCell (c : Dev nD) : GSem nD τ sig := ((c : Thread nD τ), .reg barS)
abbrev sCell (i : Fin 2) (k : Kd) (c : Dev nD) : GSem nD τ sig := ((c : Thread nD τ), .dma (sS i k))
abbrev rCell (i : Fin 2) (k : Kd) (c : Dev nD) : GSem nD τ sig := ((c : Thread nD τ), .dma (sR i k))

/-- The share of the source slot a transfer borrows: a halo block's slot whole; the three transfers of the channel
    sums read one slot, a quarter each, and the last quarter stays for the device's own load. -/
def shr : Kd → PosShare TreeShare
  | .hx => fullShare | .hy => fullShare | .hd => fullShare
  | .rx => fullShare.left.left | .ry => fullShare.left.right | .rd => fullShare.right.left

/-- A slot on device `c`, holding something. -/
abbrev anySlot (c : Dev nD) (i : Fin 2) (k : Kd) : sProp 𝕄 :=
  iprop(∃ Y, owns (c : Thread nD τ) (dstSlot i k) fullShare Y)

/-- What the device across `p` hands `c` by raising `c`'s barrier: the slots of its own that `c` will write. -/
def barPay (c : Dev nD) (p : Pr) : sProp 𝕄 :=
  iprop((anySlot (pr p c) 0 p.halo ∗ anySlot (pr p c) 0 p.red) ∗ (anySlot (pr p c) 1 p.halo ∗ anySlot (pr p c) 1 p.red))
/-- The source slot, handed back. -/
def sPay (c : Dev nD) (i : Fin 2) (k : Kd) : sProp 𝕄 := owns (c : Thread nD τ) (srcSlot i k) (shr k) (sent m c i k)
/-- The landing slot, holding the peer's block. -/
def rPay (c : Dev nD) (i : Fin 2) (k : Kd) : sProp 𝕄 := owns (c : Thread nD τ) (dstSlot i k) fullShare (sent m (peer k c) i k)

/-- The duties, the units and the payload of a cell by its role. -/
def dutiesOf : Role → Finset Pr
  | .bar => Finset.univ | .snd _ _ => {.x} | .rcv _ _ => {.x} | .stage => ∅
def amountOf : Role → ℕ
  | .bar => 1 | .snd i k => amt i k | .rcv i k => amt i k | .stage => 1
def payOf (c : Dev nD) : Role → Pr → sProp 𝕄
  | .bar, p => barPay c p | .snd i k, _ => sPay m c i k | .rcv i k, _ => rPay m c i k | .stage, _ => iprop(emp)

def Rd : Rounds.Schedule (GSem nD τ sig) Pr 𝕄 where
  duties g r := if r = 0 ∧ g.1.2 = .tc then dutiesOf (role g.2) else ∅
  unitless _ := False
  amount g _ _ := amountOf (role g.2)
  payload g _ d := payOf m g.1.1 (role g.2) d
  amount_pos g _ _ _ := by
    cases h : role g.2 with
    | bar => exact Nat.one_pos
    | snd i k => exact amt_pos i k
    | rcv i k => exact amt_pos i k
    | stage => exact Nat.one_pos

instance payload_storable (g : GSem nD τ sig) (r : ℕ) (d : Pr) :
    BI.Storable (upEmb : UEmb _ 𝕄) ((Rd (F := F) m).payload g r d) := by
  show BI.Storable upEmb (payOf m g.1.1 (role g.2) d)
  cases role g.2 <;> unfold payOf <;> dsimp only <;> (try unfold barPay anySlot) <;> (try unfold sPay) <;> (try unfold rPay) <;> infer_instance

section Sched
variable (c : Dev nD) (i : Fin 2) (k : Kd)

theorem duties_bar : (Rd (F := F) m).duties (barCell c) 0 = Finset.univ := by dsimp only [Rd]; exact if_pos ⟨rfl, rfl⟩
theorem duties_s : (Rd (F := F) m).duties (sCell i k c) 0 = {.x} := by
  dsimp only [Rd]
  rw [if_pos ⟨rfl, rfl⟩, role_sS]; rfl
theorem duties_r : (Rd (F := F) m).duties (rCell i k c) 0 = {.x} := by
  dsimp only [Rd]
  rw [if_pos ⟨rfl, rfl⟩, role_sR]; rfl
theorem duties_later (g : GSem nD τ sig) : ∀ r, 1 ≤ r → (Rd (F := F) m).duties g r = ∅ :=
  fun r hr => by dsimp only [Rd]; exact if_neg fun h => by omega

theorem amount_bar (d : Pr) : (Rd (F := F) m).amount (barCell c) 0 d = 1 := rfl
theorem amount_s (d : Pr) : (Rd (F := F) m).amount (sCell i k c) 0 d = amt i k := by
  show amountOf (role (.dma (sS i k))) = _; rw [role_sS]; rfl
theorem amount_r (d : Pr) : (Rd (F := F) m).amount (rCell i k c) 0 d = amt i k := by
  show amountOf (role (.dma (sR i k))) = _; rw [role_sR]; rfl

theorem expect_bar : (Rd (F := F) m).expect (barCell c) 0 = 3 := by
  unfold Schedule.expect Schedule.amountOf
  rw [duties_bar, Finset.sum_congr rfl fun d _ => amount_bar m c d, Finset.sum_const]; rfl
theorem expect_s : (Rd (F := F) m).expect (sCell i k c) 0 = amt i k := by
  unfold Schedule.expect Schedule.amountOf; rw [duties_s, Finset.sum_singleton, amount_s]
theorem expect_r : (Rd (F := F) m).expect (rCell i k c) 0 = amt i k := by
  unfold Schedule.expect Schedule.amountOf; rw [duties_r, Finset.sum_singleton, amount_r]

theorem payload_bar (d : Pr) : (Rd (F := F) m).payload (barCell c) 0 d = barPay c d := rfl
theorem payload_s (d : Pr) : (Rd (F := F) m).payload (sCell i k c) 0 d = sPay m c i k := by
  show payOf m c (role (.dma (sS i k))) d = _; rw [role_sS]; rfl
theorem payload_r (d : Pr) : (Rd (F := F) m).payload (rCell i k c) 0 d = rPay m c i k := by
  show payOf m c (role (.dma (sR i k))) d = _; rw [role_sR]; rfl

theorem rest_bar : bigSep ((Rd (F := F) m).duties (barCell c) 0 \ ∅) (fun d => (Rd (F := F) m).payload (barCell c) 0 d)
    = iprop(barPay c .x ∗ barPay c .y ∗ barPay c .d) := by
  rw [Finset.sdiff_empty, duties_bar, bigSep_univ_eq_bigSepL [Pr.x, Pr.y, Pr.d] (by decide) (by decide)]
  rfl
theorem rest_s : bigSep ((Rd (F := F) m).duties (sCell i k c) 0 \ ∅) (fun d => (Rd (F := F) m).payload (sCell i k c) 0 d) = sPay m c i k := by
  rw [Finset.sdiff_empty, duties_s, bigSep_singleton, payload_s]
theorem rest_r : bigSep ((Rd (F := F) m).duties (rCell i k c) 0 \ ∅) (fun d => (Rd (F := F) m).payload (rCell i k c) 0 d) = rPay m c i k := by
  rw [Finset.sdiff_empty, duties_r, bigSep_singleton, payload_r]

end Sched

/-! ## What a device owes; the levels -/

/-- One block's units, owed to its receiver. -/
abbrev oweR (c : Dev nD) (i : Fin 2) (k : Kd) : CellTallies nD τ sig Unit := tallyAt (rCell i k (peer k c)) () (amt i k)
/-- One unit, owed to a peer's barrier. -/
abbrev oweB (c : Dev nD) (p : Pr) : CellTallies nD τ sig Unit := tallyAt (barCell (pr p c)) () 1

/-- The channel sums of a step on top of `B`, then the halo blocks on top of that: each payment takes the last summand. -/
def owedRed (c : Dev nD) (i : Fin 2) (B : CellTallies nD τ sig Unit) : CellTallies nD τ sig Unit :=
  B + oweR c i .rd + oweR c i .ry + oweR c i .rx
def owedHalo (c : Dev nD) (i : Fin 2) (B : CellTallies nD τ sig Unit) : CellTallies nD τ sig Unit :=
  B + oweR c i .hd + oweR c i .hy + oweR c i .hx
/-- Owed before step `0` up to the barrier, before step `1`, and after it. -/
def owedAll (c : Dev nD) (i : Fin 2) (B : CellTallies nD τ sig Unit) : CellTallies nD τ sig Unit := owedHalo c i (owedRed c i B)
def O₁ (c : Dev nD) : CellTallies nD τ sig Unit := owedAll c 1 0
def O₀' (c : Dev nD) : CellTallies nD τ sig Unit := owedAll c 0 (O₁ c)
def O₀ (c : Dev nD) : CellTallies nD τ sig Unit := O₀' c + oweB c .d + oweB c .y + oweB c .x

def L (g : GSem nD τ sig) : Finset Unit := if g.1.2 = .tc then {()} else ∅
def lvOf : Role → ℕ
  | .bar => 1 | .snd _ _ => 0 | .rcv i _ => 2 + i.val | .stage => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g₀ g : GSem nD τ sig} {n : ℕ} {u : Unit} (h : 0 < tallyAt (nD := nD) (τ := τ) (sig := sig) g₀ () n g u) : g = g₀ := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

/-- The cells a step's credits are owed to: landing cells of that step. -/
theorem owedAll_pos {c : Dev nD} {i : Fin 2} {B : CellTallies nD τ sig Unit} {g : GSem nD τ sig} {u : Unit} (h : 0 < owedAll c i B g u) :
    (∃ k, g = rCell i k (peer k c)) ∨ 0 < B g u := by
  unfold owedAll owedHalo owedRed at h
  rcases add_pos_cases h with h | h
  · rcases add_pos_cases h with h | h
    · rcases add_pos_cases h with h | h
      · rcases add_pos_cases h with h | h
        · rcases add_pos_cases h with h | h
          · rcases add_pos_cases h with h | h
            · exact .inr h
            · exact .inl ⟨_, tally_pos h⟩
          · exact .inl ⟨_, tally_pos h⟩
        · exact .inl ⟨_, tally_pos h⟩
      · exact .inl ⟨_, tally_pos h⟩
    · exact .inl ⟨_, tally_pos h⟩
  · exact .inl ⟨_, tally_pos h⟩

theorem O₁_pos {c : Dev nD} {g : GSem nD τ sig} {u : Unit} (h : 0 < O₁ c g u) : ∃ k, g = rCell 1 k (peer k c) := by
  rcases owedAll_pos h with h | h
  · exact h
  · exact absurd h (Nat.lt_irrefl 0)

theorem O₀'_pos {c : Dev nD} {g : GSem nD τ sig} {u : Unit} (h : 0 < O₀' c g u) : ∃ i k, g = rCell i k (peer k c) := by
  rcases owedAll_pos h with ⟨k, h⟩ | h
  · exact ⟨0, k, h⟩
  · obtain ⟨k, h⟩ := O₁_pos h; exact ⟨1, k, h⟩

theorem O₀_pos {c : Dev nD} {g : GSem nD τ sig} {u : Unit} (h : 0 < O₀ c g u) : (∃ i k, g = rCell i k (peer k c)) ∨ ∃ p, g = barCell (pr p c) := by
  rcases add_pos_cases h with h | h
  · rcases add_pos_cases h with h | h
    · rcases add_pos_cases h with h | h
      · exact .inl (O₀'_pos h)
      · exact .inr ⟨_, tally_pos h⟩
    · exact .inr ⟨_, tally_pos h⟩
  · exact .inr ⟨_, tally_pos h⟩

/-- A wait of level `n` is allowed while everything owed lies above `n`. -/
theorem mayWait_of (n : ℕ) (c : Dev nD) (sm : SemLoc sig) (O : CellTallies nD τ sig Unit) (hs : lvOf (role sm) ≤ n)
    (hO : ∀ g u, 0 < O g u → g.1.2 = .tc ∧ n < lvOf (role g.2)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem lv_rCell (i : Fin 2) (k : Kd) (c : Dev nD) : lvOf (role (rCell i k c).2) = 2 + i.val := by
  show lvOf (role (.dma (sR i k))) = _; rw [role_sR]; rfl
theorem lv_sS (i : Fin 2) (k : Kd) : lvOf (role (.dma (sS i k))) = 0 := by rw [role_sS]; rfl
theorem lv_sR (i : Fin 2) (k : Kd) : lvOf (role (.dma (sR i k))) = 2 + i.val := by rw [role_sR]; rfl

/-- What a device owes after step `i`'s blocks have left. -/
def owedAfter (c : Dev nD) : Fin 2 → CellTallies nD τ sig Unit
  | 0 => O₁ c
  | 1 => 0

theorem mayWait_step (c : Dev nD) (i : Fin 2) (sm : SemLoc sig) (hs : lvOf (role sm) ≤ 2 + i.val) :
    (levAts L lv : sProp 𝕄) ⊢ MayWait (c : Thread nD τ) sm () (owedAfter c i) := by
  refine mayWait_of (2 + i.val) c sm _ hs fun g u hg => ?_
  revert hg; revert i
  intro i
  match i with
  | 0 => intro _ hg; obtain ⟨k, rfl⟩ := O₁_pos hg; exact ⟨rfl, by rw [lv_rCell]; decide⟩
  | 1 => intro _ hg; exact absurd hg (Nat.lt_irrefl 0)

theorem mayWait_bar (c : Dev nD) : (levAts L lv : sProp 𝕄) ⊢ MayWait (c : Thread nD τ) (.reg barS) () (O₀' c) :=
  mayWait_of 1 c _ _ (le_of_eq rfl) fun g u hg => by
    obtain ⟨i, k, rfl⟩ := O₀'_pos hg; exact ⟨rfl, by rw [lv_rCell]; omega⟩

theorem mayWait_stage (c : Dev nD) (q : DmaSem sig) (hq : role (.dma q) = .stage) (O : CellTallies nD τ sig Unit) (hO : O = O₀ c ∨ O = O₁ c ∨ O = 0) :
    (levAts L lv : sProp 𝕄) ⊢ MayWait (c : Thread nD τ) (.dma q) () O := by
  refine mayWait_of 0 c _ _ (by rw [hq]; exact le_refl 0) fun g u hg => ?_
  rcases hO with rfl | rfl | rfl
  · rcases O₀_pos hg with ⟨i, k, rfl⟩ | ⟨p, rfl⟩
    · exact ⟨rfl, by rw [lv_rCell]; omega⟩
    · exact ⟨rfl, Nat.one_pos⟩
  · obtain ⟨k, rfl⟩ := O₁_pos hg; exact ⟨rfl, by rw [lv_rCell]; omega⟩
  · exact absurd hg (Nat.lt_irrefl 0)

end Cert.KernelIdealProof

end
-- ==== Proof.Steps.lean ====
/-
# One rule per step of the kernel

Loads and stores through a slot that is owned with its contents; one block sent; one block's departure or arrival
awaited; the barrier raised and awaited. Each rule is stated once, at a symbolic device, step and kind of block.
-/
module

public import proofs.«01_k».proof.Proof.Schedule
public import Idealize.ShloMosaic.Lib.ViewIndex

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Loads and stores of owned slots -/

section Mem

variable {s : Shape} {e : EltTy} {α : Type} (c : Dev nD)

/-- A load of a whole owned memref. -/
theorem wp_load_owned {Q : α → sProp 𝕄} {b : Memref sig .tc .vmem s e} {q : PosShare TreeShare} {X : s.Idx → Elt F e} {off : Fin s.rank → ℕ}
    {inb : ∀ a, off a + s.size a ≤ s.size a} {hl : b.view.LoadsAt (Rect.unit off s.size inb).toLoadRect}
    {k : (s.Idx → Elt F e) → Prog (TpuEff nD τ sig (Elt F) Λ₀ .tc) α} :
    (owns (c : Thread nD τ) b q X : sProp 𝕄)
      ⊢ iprop((owns (c : Thread nD τ) b q X -∗ wp frame (wpE (defs₀ (F := F)) 𝒱₀ (c : Thread nD τ) none) Set.univ (k X) Q)
        -∗ wp frame (wpE (defs₀ (F := F)) 𝒱₀ (c : Thread nD τ) none) Set.univ (.op (.load b (Rect.unit off s.size inb).toLoadRect hl) k) Q) := by
  iintro H Hk
  ihave H' := (show owns (c : Thread nD τ) b q X ⊢ iprop(∃ f, ⌜b.view.read (Elt F) f = X⌝ ∗ (b.view.loc (c : Thread nD τ) ↦[b.view.set]{q} f) : sProp 𝕄) from .rfl) $$ H
  icases H' with ⟨%f, %hf, H⟩
  have hS : b.view.setOn (Rect.unit off s.size inb).toLoadRect.set ⊆ b.view.set := Finset.map_subset_map.mpr (Finset.subset_univ _)
  iapply (wp_load 𝒱₀ (c : Thread nD τ) none Set.univ (m := b) hS) $$ H
  iintro H
  rw [View.readAt_full, hf]
  iapply Hk
  subst hf
  iapply (owns_intro (c : Thread nD τ) b q f); iexact H

/-- A load of an owned slot through the buffer it lies in. -/
theorem wp_load_slot {Q : α → sProp 𝕄} {b : Memref sig .tc .vmem s e} {q : PosShare TreeShare} {off off' size : Fin s.rank → ℕ}
    {inb : ∀ a, off a + size a ≤ s.size a} {inb' : ∀ a, off' a + size a ≤ s.size a} (h : off = off')
    {X : (Rect.unit off' size inb').shape.Idx → Elt F e} {hl : b.view.LoadsAt (Rect.unit off size inb).toLoadRect}
    {k : ((Rect.unit off size inb).shape.Idx → Elt F e) → Prog (TpuEff nD τ sig (Elt F) Λ₀ .tc) α} :
    (owns (c : Thread nD τ) (b.slice (Rect.unit off' size inb') (fun _ => rfl)) q X : sProp 𝕄)
      ⊢ iprop((owns (c : Thread nD τ) (b.slice (Rect.unit off' size inb') (fun _ => rfl)) q X -∗ wp frame (wpE (defs₀ (F := F)) 𝒱₀ (c : Thread nD τ) none) Set.univ (k X) Q)
        -∗ wp frame (wpE (defs₀ (F := F)) 𝒱₀ (c : Thread nD τ) none) Set.univ (.op (.load b (Rect.unit off size inb).toLoadRect hl) k) Q) := by
  subst h
  iintro H Hk
  ihave H' := (show owns (c : Thread nD τ) (b.slice (Rect.unit off size inb') (fun _ => rfl)) q X
    ⊢ iprop(∃ f, ⌜(b.slice (Rect.unit off size inb') (fun _ => rfl)).view.read (Elt F) f = X⌝
        ∗ (b.view.loc (c : Thread nD τ) ↦[(b.view.slice (Rect.unit off size inb')).set]{q} f) : sProp 𝕄) from .rfl) $$ H
  icases H' with ⟨%f, %hf, H⟩
  have hS : b.view.setOn (Rect.unit off size inb).toLoadRect.set ⊆ (b.view.slice (Rect.unit off size inb)).set := by
    rw [View.set_slice]; exact Finset.Subset.refl _
  iapply (wp_load 𝒱₀ (c : Thread nD τ) none Set.univ (m := b) hS) $$ H
  iintro H
  rw [show b.view.readAt (Elt F) (Rect.unit off size inb).toLoadRect f = X from hf]
  iapply Hk
  subst hf
  iapply (owns_intro (c : Thread nD τ) (b.slice (Rect.unit off size inb') (fun _ => rfl)) q f); iexact H

/-- A store to a whole owned memref. -/
theorem wp_store_owned {Q : α → sProp 𝕄} {b : Memref sig .tc .vmem s e} {X : s.Idx → Elt F e} {off : Fin s.rank → ℕ}
    {inb : ∀ a, off a + s.size a ≤ s.size a} {w : s.Idx → Elt F e} {hx : (b.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    (owns (c : Thread nD τ) b fullShare X : sProp 𝕄)
      ⊢ iprop((owns (c : Thread nD τ) b fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store b (Rect.unit off s.size inb) w Finset.univ hx hm) k) Q) := by
  iintro H Hk
  ihave H' := (show owns (c : Thread nD τ) b fullShare X ⊢ iprop(∃ f, ⌜b.view.read (Elt F) f = X⌝ ∗ (b.view.loc (c : Thread nD τ) ↦[b.view.set]{fullShare} f) : sProp 𝕄) from .rfl) $$ H
  icases H' with ⟨%f, -, H⟩
  have hS : (b.access (Rect.unit off s.size inb)).setOn Finset.univ ⊆ b.view.set := View.set_slice_subset _ _
  iapply (wp_store 𝒱₀ (c : Thread nD τ) none Set.univ (m := b) (r := Rect.unit off s.size inb) (Mk := Finset.univ) hS) $$ H
  iintro H
  iapply Hk
  have hr : b.view.read (Elt F) ((b.access (Rect.unit off s.size inb)).write (Elt F) f w Finset.univ) = w := by
    rw [← View.readAt_full b.view _ inb]
    exact View.read_write_univ _ _
  iapply (show (b.view.loc (c : Thread nD τ) ↦[b.view.set]{fullShare} ((b.access (Rect.unit off s.size inb)).write (Elt F) f w Finset.univ))
    ⊢ (owns (c : Thread nD τ) b fullShare w : sProp 𝕄) from by
      conv => rhs; rw [← hr]
      exact owns_intro (c : Thread nD τ) b fullShare _)
  iexact H

/-- A store to an owned slot through the buffer it lies in. -/
theorem wp_store_slot {Q : α → sProp 𝕄} {b : Memref sig .tc .vmem s e} {off off' size : Fin s.rank → ℕ}
    {inb : ∀ a, off a + size a ≤ s.size a} {inb' : ∀ a, off' a + size a ≤ s.size a} (h : off = off')
    {X : (Rect.unit off' size inb').shape.Idx → Elt F e} {w : (Rect.unit off size inb).shape.Idx → Elt F e}
    {hx : (b.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    (owns (c : Thread nD τ) (b.slice (Rect.unit off' size inb') (fun _ => rfl)) fullShare X : sProp 𝕄)
      ⊢ iprop((owns (c : Thread nD τ) (b.slice (Rect.unit off' size inb') (fun _ => rfl)) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store b (Rect.unit off size inb) w Finset.univ hx hm) k) Q) := by
  subst h
  iintro H Hk
  ihave H' := (show owns (c : Thread nD τ) (b.slice (Rect.unit off size inb') (fun _ => rfl)) fullShare X
    ⊢ iprop(∃ f, ⌜(b.slice (Rect.unit off size inb') (fun _ => rfl)).view.read (Elt F) f = X⌝
        ∗ (b.view.loc (c : Thread nD τ) ↦[(b.view.slice (Rect.unit off size inb')).set]{fullShare} f) : sProp 𝕄) from .rfl) $$ H
  icases H' with ⟨%f, -, H⟩
  have hS : (b.access (Rect.unit off size inb)).setOn Finset.univ ⊆ (b.view.slice (Rect.unit off size inb)).set := Finset.Subset.refl _
  iapply (wp_store 𝒱₀ (c : Thread nD τ) none Set.univ (m := b) (r := Rect.unit off size inb) (Mk := Finset.univ) hS) $$ H
  iintro H
  iapply Hk
  iapply (show (b.view.loc (c : Thread nD τ) ↦[(b.view.slice (Rect.unit off size inb')).set]{fullShare} ((b.access (Rect.unit off size inb)).write (Elt F) f w Finset.univ))
    ⊢ (owns (c : Thread nD τ) (b.slice (Rect.unit off size inb') (fun _ => rfl)) fullShare w : sProp 𝕄) from by
      conv => rhs; rw [← Memref.read_slice_write b inb rfl inb' f w]
      exact owns_intro (c : Thread nD τ) (b.slice (Rect.unit off size inb') (fun _ => rfl)) fullShare _)
  iexact H

end Mem

/-! ## The two stores of the channel sums -/

/-- The two rows of channel sums, put together. -/
def redJoin (w8 w9 : Vec F S1x1x1x64 .f32) : Vec F S1x1x2x64 .f32 := fun y =>
  if (y 2).val = 0 then w8 (lane (y 3)) else w9 (lane (y 3))

theorem redOut_eq (x : Vec F S1x128x128x64 .bf16) : redOut x = redJoin (k0_pay8 (k0_pay2 x)) (k0_pay9 (k0_pay2 x)) := rfl

theorem inbH (i : Fin 2) (r : Fin 2) : ∀ a, (![i.val, 3, r.val, 0] : Fin 4 → ℕ) a + S1x1x1x64.size a ≤ S2x4x2x64.size a := by
  revert i r; decide

/-- The rectangle of a slot's row `r`, and of the slot. -/
abbrev rowR (i r : Fin 2) : Rect S2x4x2x64 := Rect.unit (s := S2x4x2x64) ![i.val, 3, r.val, 0] S1x1x1x64.size (inbH i r)
abbrev ownR (i : Fin 2) : Rect S2x4x2x64 := Rect.unit (s := S2x4x2x64) ![i.val, (3 : Fin 4).val, 0, 0] S1x1x2x64.size (inbR i 3)

/-- Channel `y 3` of row `r` of the slot is channel `y 3` of the row's rectangle. -/
theorem own_row (i r : Fin 2) (y : S1x1x2x64.Idx) (h : (y 2).val = r.val) : (ownR i).emb y = (rowR i r).emb (lane (y 3)) := by
  have h0 : (y 0).val = 0 := by have : (y 0).val < 1 := (y 0).isLt; omega
  have h1 : (y 1).val = 0 := by have : (y 1).val < 1 := (y 1).isLt; omega
  funext a
  refine Fin.ext ?_
  match a with
  | 0 => show i.val + 1 * (y 0).val = i.val + 1 * 0; rw [h0]
  | 1 => show 3 + 1 * (y 1).val = 3 + 1 * 0; rw [h1]
  | 2 => show 0 + 1 * (y 2).val = r.val + 1 * 0; omega
  | 3 => rfl

/-- The rows of a slot are apart: a channel of one row is not in the other's rectangle. -/
theorem row_not_mem (i r r' : Fin 2) (hr : r ≠ r') (z : S1x1x1x64.Idx) : (rowR i r).emb z ∉ (Finset.univ : Finset (rowR i r').shape.Idx).map (rowR i r').emb := by
  intro hm
  obtain ⟨z', -, hz⟩ := Finset.mem_map.mp hm
  have h2 : r'.val + 1 * (z' 2).val = r.val + 1 * (z 2).val := congrArg Fin.val (congrFun hz 2)
  have a0 : (z 2).val < 1 := (z 2).isLt
  have a1 : (z' 2).val < 1 := (z' 2).isLt
  exact hr (Fin.ext (by omega))

theorem row_subset (b : Memref sig .tc .vmem S2x4x2x64 .f32) (i r : Fin 2) : (b.view.slice (rowR i r)).set ⊆ (b.view.slice (ownR i)).set := by
  rw [View.set_slice, View.set_slice]
  refine Finset.map_subset_map.mpr ?_
  intro x hx
  obtain ⟨z, rfl⟩ := (rowR i r).exists_idx_of_mem hx
  let y : S1x1x2x64.Idx := fun | 0 => ⟨0, by decide⟩ | 1 => ⟨0, by decide⟩ | 2 => r | 3 => z 3
  have hz : lane (y 3) = z := by
    funext a; refine Fin.ext ?_
    match a with
    | 0 => show 0 = (z 0).val; have : (z 0).val < 1 := (z 0).isLt; omega
    | 1 => show 0 = (z 1).val; have : (z 1).val < 1 := (z 1).isLt; omega
    | 2 => show 0 = (z 2).val; have : (z 2).val < 1 := (z 2).isLt; omega
    | 3 => rfl
  have := own_row i r y rfl
  rw [hz] at this
  show (rowR i r).emb z ∈ _
  rw [← this, ← Rect.map_emb_univ]
  exact Finset.mem_map_of_mem _ (Finset.mem_univ y)

/-- Read after the two stores, the slot holds the two rows. -/
theorem read_red_stores (b : Memref sig .tc .vmem S2x4x2x64 .f32) (i : Fin 2) (f : b.view.ty.Contents (Elt F)) (w8 w9 : Vec F S1x1x1x64 .f32) :
    (redSlot b i 3).view.read (Elt F) ((b.view.slice (rowR i 1)).write (Elt F) ((b.view.slice (rowR i 0)).write (Elt F) f w8 Finset.univ) w9 Finset.univ)
      = redJoin w8 w9 := by
  funext y
  show b.view.read (Elt F) _ ((ownR i).emb y) = _
  unfold redJoin
  by_cases h : (y 2).val = 0
  · rw [if_pos h, own_row i 0 y h, View.read_slice_write_of_not_mem _ _ _ _ (row_not_mem i 0 1 (by decide) _),
      View.read_slice_write_emb _ _ _ (Finset.mem_univ _)]
  · have h1 : (y 2).val = 1 := by have : (y 2).val < 2 := (y 2).isLt; omega
    rw [if_neg h, own_row i 1 y h1, View.read_slice_write_emb _ _ _ (Finset.mem_univ _)]

/-- The device writes its channel sums: a row at a time, each read before it is written. -/
theorem wp_red_stores {α : Type} {Q : α → sProp 𝕄} (c : Dev nD) (b : Memref sig .tc .vmem S2x4x2x64 .f32) (i : Fin 2) {o3 o4 : Fin 4 → ℕ}
    (h3 : o3 = ![i.val, 3, 0, 0]) (h4 : o4 = ![i.val, 3, 1, 0])
    {inb3 : ∀ a, o3 a + S1x1x1x64.size a ≤ S2x4x2x64.size a} {inb4 : ∀ a, o4 a + S1x1x1x64.size a ≤ S2x4x2x64.size a}
    {w8 w9 : Vec F S1x1x1x64 .f32}
    {hl3 : b.view.LoadsAt (Rect.unit (s := S2x4x2x64) o3 S1x1x1x64.size inb3).toLoadRect} {hl4 : b.view.LoadsAt (Rect.unit (s := S2x4x2x64) o4 S1x1x1x64.size inb4).toLoadRect}
    {hx3 : (b.access (Rect.unit (s := S2x4x2x64) o3 S1x1x1x64.size inb3)).Stores Finset.univ}
    {hx4 : (b.access (Rect.unit (s := S2x4x2x64) o4 S1x1x1x64.size inb4)).Stores Finset.univ}
    {hm3 : (Finset.univ : Finset (Rect.unit (s := S2x4x2x64) o3 S1x1x1x64.size inb3).shape.Idx) = Finset.univ ∨ ∀ a, (Rect.unit (s := S2x4x2x64) o3 S1x1x1x64.size inb3).stride a = 1}
    {hm4 : (Finset.univ : Finset (Rect.unit (s := S2x4x2x64) o4 S1x1x1x64.size inb4).shape.Idx) = Finset.univ ∨ ∀ a, (Rect.unit (s := S2x4x2x64) o4 S1x1x1x64.size inb4).stride a = 1}
    {k : Prog (TpuEff nD τ sig (Elt F) Λ₀ .tc) α} :
    (iprop(∃ Y, owns (c : Thread nD τ) (redSlot b i 3) fullShare Y) : sProp 𝕄)
      ⊢ iprop((owns (c : Thread nD τ) (redSlot b i 3) fullShare (redJoin w8 w9) -∗ wp frame (wpE (defs₀ (F := F)) 𝒱₀ (c : Thread nD τ) none) Set.univ k Q)
        -∗ wp frame (wpE (defs₀ (F := F)) 𝒱₀ (c : Thread nD τ) none) Set.univ
            (.op (.load b (Rect.unit (s := S2x4x2x64) o3 S1x1x1x64.size inb3).toLoadRect hl3) fun _ =>
              .op (.store b (Rect.unit (s := S2x4x2x64) o3 S1x1x1x64.size inb3) w8 Finset.univ hx3 hm3) fun _ =>
              .op (.load b (Rect.unit (s := S2x4x2x64) o4 S1x1x1x64.size inb4).toLoadRect hl4) fun _ =>
              .op (.store b (Rect.unit (s := S2x4x2x64) o4 S1x1x1x64.size inb4) w9 Finset.univ hx4 hm4) fun _ => k) Q) := by
  subst h3 h4
  iintro ⟨%Y, H⟩ Hk
  ihave H' := (show owns (c : Thread nD τ) (redSlot b i 3) fullShare Y
    ⊢ iprop(∃ f, ⌜(redSlot b i 3).view.read (Elt F) f = Y⌝ ∗ (b.view.loc (c : Thread nD τ) ↦[(b.view.slice (ownR i)).set]{fullShare} f) : sProp 𝕄) from .rfl) $$ H
  icases H' with ⟨%f, -, H⟩
  have hl (r : Fin 2) : b.view.setOn (rowR i r).toLoadRect.set ⊆ (b.view.slice (ownR i)).set := by
    refine Finset.Subset.trans ?_ (row_subset b i r); rw [View.set_slice]; exact Finset.Subset.refl _
  have hs (r : Fin 2) : (b.access (rowR i r)).setOn Finset.univ ⊆ (b.view.slice (ownR i)).set := row_subset b i r
  iapply (wp_load 𝒱₀ (c : Thread nD τ) none Set.univ (m := b) (hl 0)) $$ H
  iintro H
  iapply (wp_store 𝒱₀ (c : Thread nD τ) none Set.univ (m := b) (r := rowR i 0) (Mk := Finset.univ) (hs 0)) $$ H
  iintro H
  iapply (wp_load 𝒱₀ (c : Thread nD τ) none Set.univ (m := b) (hl 1)) $$ H
  iintro H
  iapply (wp_store 𝒱₀ (c : Thread nD τ) none Set.univ (m := b) (r := rowR i 1) (Mk := Finset.univ) (hs 1)) $$ H
  iintro H
  iapply Hk
  iapply (show (b.view.loc (c : Thread nD τ) ↦[(b.view.slice (ownR i)).set]{fullShare}
      ((b.view.slice (rowR i 1)).write (Elt F) ((b.view.slice (rowR i 0)).write (Elt F) f w8 Finset.univ) w9 Finset.univ))
    ⊢ (owns (c : Thread nD τ) (redSlot b i 3) fullShare (redJoin w8 w9) : sProp 𝕄) from by
      conv => rhs; rw [← read_red_stores b i f w8 w9]
      exact owns_intro (c : Thread nD τ) (redSlot b i 3) fullShare _)
  iexact H

/-! ## The cells' records -/

/-- The exchange's cells on one device: the barrier, and for each step and kind the "left" (`false`) and the "landed" (`true`) cell. -/
abbrev CK : Type := Option (Bool × Fin 2 × Kd)

def csem : CK → SemLoc sig
  | none => .reg barS
  | some (false, i, k) => .dma (sS i k)
  | some (true, i, k) => .dma (sR i k)

abbrev kcell (ck : Dev nD × CK) : GSem nD τ sig := ((ck.1 : Thread nD τ), csem ck.2)

/-- Every cell's invariant, at the names `K`, and that every cell has reached its round. Nothing in it is used up. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (Rd m) (K ck) (kcell ck) := by
  unfold records
  iintro ⟨H, -⟩
  iapply (show (bigSep Finset.univ fun ck : Dev nD × CK => cellInv ER (Rd m) (K ck) (kcell ck)) ⊢ (cellInv ER (Rd m) (K ck) (kcell ck) : sProp 𝕄)
    from bigSep_elim (Finset.mem_univ ck)); iexact H
theorem reached_at (K : Dev nD × CK → ℕ) (ck : Dev nD × CK) : records m K ⊢ reached ER (kcell ck) 0 := by
  unfold records
  iintro ⟨-, H⟩
  iapply (show (bigSep Finset.univ fun ck : Dev nD × CK => reached ER (kcell ck) 0) ⊢ (reached ER (kcell ck) 0 : sProp 𝕄)
    from bigSep_elim (Finset.mem_univ ck)); iexact H

/-! ## Sending and awaiting a block -/

/-- What a device owes, whatever it has waited for. -/
abbrev owesAny (c : Dev nD) (O : CellTallies nD τ sig Unit) : sProp 𝕄 := iprop(∃ W, owes (c : Thread nD τ) O W)

section Comm

variable (K : Dev nD × CK → ℕ)

/-- Device `c` sends its block of kind `k` at step `i` to the peer's landing slot. -/
theorem wp_send_block {α : Type} {Q : α → sProp 𝕄} (c n : Dev nD) (i : Fin 2) (k : Kd) (hn : n = peer k c)
    {hsc : ((dstSlot i k).squeeze (sqSh k) (sq k) : Memref sig (Dev.tc n : Thread nD τ).2.kind .vmem (sqSh k) (slE k)).view.ref.isScScratch = false}
    {hsrc : ((srcSlot i k).squeeze (sqSh k) (sq k)).view.WordExact} {hdst : ((dstSlot i k).squeeze (sqSh k) (sq k)).view.WordExact}
    {hsem : DmaTarget.Typed .vmem (.dma (sR i k)) (.remote (Dev.tc n : Thread nD τ) ((dstSlot i k).squeeze (sqSh k) (sq k)) (.dma (sS i k)) hsc)}
    {kt : PUnit → Prog (TpuEff nD τ sig (Elt F) Λ₀ .tc) α}
    (O : CellTallies nD τ sig Unit) :
    iprop(records m K ∗ sPay m c i k ∗ anySlot (peer k c) i k
        ∗ owesAny c (O + oweR c i k)
        ∗ dutyTok ER (sCell i k c) 0 .x ∗ dutyTok ER (rCell i k (peer k c)) 0 .x)
      ⊢ iprop(((cred (tallyAt (sCell i k c) () (amt i k)) ∗ owesAny c O)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma ((srcSlot i k).squeeze (sqSh k) (sq k))
                (.remote (Dev.tc n : Thread nD τ) ((dstSlot i k).squeeze (sqSh k) (sq k)) (.dma (sS i k)) hsc) (.dma (sR i k)) hsrc hdst hsem) kt) Q) := by
  subst hn
  iintro ⟨#HR, Hs, ⟨%Y, Hd⟩, ⟨%W, HO⟩, Ht, Htp⟩ Hk
  ihave Hs' := (show sPay m c i k ⊢ iprop(∃ f, ⌜(srcSlot i k).view.read (Elt F) f = sent m c i k⌝
    ∗ ((srcSlot i k).view.loc (c : Thread nD τ) ↦[(srcSlot i k).view.set]{shr k} f) : sProp 𝕄) from .rfl) $$ Hs
  icases Hs' with ⟨%f, %hf, Hs⟩
  ihave Hd' := (show owns (peer k c : Thread nD τ) (dstSlot i k) fullShare Y ⊢ iprop(∃ g, ⌜(dstSlot i k).view.read (Elt F) g = Y⌝
    ∗ ((dstSlot i k).view.loc (peer k c : Thread nD τ) ↦[(dstSlot i k).view.set]{fullShare} g) : sProp 𝕄) from .rfl) $$ Hd
  icases Hd' with ⟨%g, -, Hd⟩
  have hset (b : Memref sig .tc .vmem (slSh k) (slE k)) : (b.squeeze (sqSh k) (sq k)).view.set = b.view.set := View.set_reshape b.view _
  iapply (Rounds.wp_send_pointsTo 𝒱₀ ER (Rd m) (c : Thread nD τ) none (c' := (peer k c : Thread nD τ))
    (src := (srcSlot i k).squeeze (sqSh k) (sq k)) (dst := (dstSlot i k).squeeze (sqSh k) (sq k))
    (κ₁ := K (c, some (false, i, k))) (κ₂ := K (peer k c, some (true, i, k)))
    (r₁ := 0) (r₂ := 0) (d₁ := .x) (d₂ := .x) (fs := f) (fd := g) (q := shr k)
    (by rw [duties_s]; exact Finset.mem_singleton_self _) (by rw [duties_r]; exact Finset.mem_singleton_self _)
    () () (amt i k) rfl (amount_s m c i k .x) (amount_r m (peer k c) i k .x) O rfl (W := W)
    (by
      rw [payload_s]
      rw [hset]
      exact ((owns_intro (c : Thread nD τ) (srcSlot i k) (shr k) f).trans (Entails.of_eq (by rw [hf]; rfl))))
    (by
      rw [payload_r]
      have hw : (dstSlot i k).view.read (Elt F) (((dstSlot i k).squeeze (sqSh k) (sq k)).view.write (Elt F) g
          (((srcSlot i k).squeeze (sqSh k) (sq k)).view.read (Elt F) f) Finset.univ) = sent m (peer k (peer k c)) i k := by
        rw [peer_peer, ← hf]
        funext x
        obtain ⟨z, rfl⟩ := (Shape.reshapeEquiv (sq k).numel_eq).surjective x
        exact View.read_write_reshape (dstSlot i k).view (sq k).numel_eq g _ z
      rw [hset]
      exact ((owns_intro (peer k c : Thread nD τ) (dstSlot i k) fullShare _).trans (Entails.of_eq (by rw [hw]; rfl)))))
    $$ [Hs Hd HO Ht Htp]
  · isplitr; · iapply (inv_at m K (c, some (false, i, k))); iexact HR
    isplitr; · iapply (inv_at m K (peer k c, some (true, i, k))); iexact HR
    isplitl [Hs]; · rw [hset]; iexact Hs
    isplitl [Hd]; · rw [hset]; iexact Hd
    isplitl [HO]; · iexact HO
    isplitl [Ht]; · iexact Ht
    isplitr; · iapply (reached_at m K (c, some (false, i, k))); iexact HR
    isplitl [Htp]; · iexact Htp
    iapply (reached_at m K (peer k c, some (true, i, k))); iexact HR
  iintro ⟨Hc, HO⟩
  iapply Hk
  isplitl [Hc]; · iexact Hc
  iexists _; iexact HO

/-- Device `c` awaits its block's departure: the source slot comes back, and the cell's counter at zero. -/
theorem wp_left {α : Type} {Q : α → sProp 𝕄} (c : Dev nD) (i : Fin 2) (k : Kd) {s s' : Shape} {e e' : EltTy}
    {a : Memref sig .tc .vmem s' e'} {b : Memref sig .tc .vmem s e} {ha : a.view.WordExact} {hb : b.view.WordExact}
    (hN : b.view.dmaCredit = amt i k)
    {kt : PUnit → Prog (TpuEff nD τ sig (Elt F) Λ₀ .tc) α} :
    iprop(records m K ∗ levAts L lv ∗ cred (tallyAt (sCell i k c) () (amt i k)) ∗ owesAny c (owedAfter c i) ∗ atPos ER (sCell i k c) 0 ∅ 0)
      ⊢ iprop(((owesAny c (owedAfter c i) ∗ semVal (sCell i k c) 0 ∗ sPay m c i k)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sS i k) a b ha hb) kt) Q) := by
  iintro ⟨#HR, #Hlev, Hc, ⟨%W, HO⟩, Hat⟩ Hk
  iapply (Rounds.wp_wait_rest_token 𝒱₀ ER (Rd m) (c : Thread nD τ) none (κ := K (c, some (false, i, k)))
      (wpE_waitDma2_eq 𝒱₀ (c : Thread nD τ) none Set.univ) (Set.mem_univ _) () (O := owedAfter c i) (W := W) (R := 0) (m := 0) (T := ∅)
      (by rw [Nat.zero_add, expect_s, hN])) $$ [Hc HO Hat]
  · isplitr; · iapply (inv_at m K (c, some (false, i, k))); iexact HR
    isplitl [Hc]; · rw [hN]; iexact Hc
    isplitl [HO]; · iexact HO
    isplitr; · iapply (mayWait_step c i _ (by rw [lv_sS]; omega)); iexact Hlev
    iexact Hat
  iintro ⟨HO, Hat, -, Hpay⟩
  ihave Hp := (Entails.of_eq (rest_s m c i k)) $$ Hpay
  imod (Rounds.cell_close ER (Rd m) (Set.mem_univ (K (c, some (false, i, k)))) (fun h => h) (R := 0 + 1) (duties_later m (sCell i k c))) $$ [Hat] with Hz
  · isplitr; · iapply (inv_at m K (c, some (false, i, k))); iexact HR
    iexact Hat
  iapply Hk
  isplitl [HO]; · iexists _; iexact HO
  isplitl [Hz] <;> iassumption

/-- Device `c` awaits the peer's block: its landing slot comes back holding it, and the cell's counter at zero. -/
theorem wp_landed {α : Type} {Q : α → sProp 𝕄} (c : Dev nD) (i : Fin 2) (k : Kd) {s s' : Shape} {e e' : EltTy}
    {a : Memref sig .tc .vmem s' e'} {b : Memref sig .tc .vmem s e} {ha : a.view.WordExact} {hb : b.view.WordExact}
    (hN : b.view.dmaCredit = amt i k)
    {kt : PUnit → Prog (TpuEff nD τ sig (Elt F) Λ₀ .tc) α} :
    iprop(records m K ∗ levAts L lv ∗ cred (tallyAt (rCell i k c) () (amt i k)) ∗ owesAny c (owedAfter c i) ∗ atPos ER (rCell i k c) 0 ∅ 0)
      ⊢ iprop(((owesAny c (owedAfter c i) ∗ semVal (rCell i k c) 0 ∗ rPay m c i k)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sR i k) a b ha hb) kt) Q) := by
  iintro ⟨#HR, #Hlev, Hc, ⟨%W, HO⟩, Hat⟩ Hk
  iapply (Rounds.wp_wait_rest_token 𝒱₀ ER (Rd m) (c : Thread nD τ) none (κ := K (c, some (true, i, k)))
      (wpE_waitDma2_eq 𝒱₀ (c : Thread nD τ) none Set.univ) (Set.mem_univ _) () (O := owedAfter c i) (W := W) (R := 0) (m := 0) (T := ∅)
      (by rw [Nat.zero_add, expect_r, hN])) $$ [Hc HO Hat]
  · isplitr; · iapply (inv_at m K (c, some (true, i, k))); iexact HR
    isplitl [Hc]; · rw [hN]; iexact Hc
    isplitl [HO]; · iexact HO
    isplitr; · iapply (mayWait_step c i _ (by rw [lv_sR])); iexact Hlev
    iexact Hat
  iintro ⟨HO, Hat, -, Hpay⟩
  ihave Hp := (Entails.of_eq (rest_r m c i k)) $$ Hpay
  imod (Rounds.cell_close ER (Rd m) (Set.mem_univ (K (c, some (true, i, k)))) (fun h => h) (R := 0 + 1) (duties_later m (rCell i k c))) $$ [Hat] with Hz
  · isplitr; · iapply (inv_at m K (c, some (true, i, k))); iexact HR
    iexact Hat
  iapply Hk
  isplitl [HO]; · iexists _; iexact HO
  isplitl [Hz] <;> iassumption

/-! ## The barrier -/

/-- What device `c` hands the device across `p`: its own landing slots that device will write. -/
def give (c : Dev nD) (p : Pr) : sProp 𝕄 :=
  iprop((anySlot c 0 p.halo ∗ anySlot c 0 p.red) ∗ (anySlot c 1 p.halo ∗ anySlot c 1 p.red))

theorem give_eq (c : Dev nD) (p : Pr) : (give c p : sProp 𝕄) = barPay (pr p c) p := by unfold give barPay; rw [pr_pr]

theorem wp_signal_peer {α : Type} {Q : α → sProp 𝕄} (c n : Dev nD) (p : Pr) (hn : n = pr p c)
    {kt : PUnit → Prog (TpuEff nD τ sig (Elt F) Λ₀ .tc) α}
    (O : CellTallies nD τ sig Unit) :
    iprop(records m K ∗ owesAny c (O + oweB c p) ∗ dutyTok ER (barCell (pr p c)) 0 p ∗ give c p)
      ⊢ iprop((owesAny c O -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n : Thread nD τ) barS 1) kt) Q) := by
  subst hn
  iintro ⟨#HR, ⟨%W, HO⟩, Ht, Hg⟩ Hk
  iapply (Rounds.wp_signal 𝒱₀ ER (Rd m) (c : Thread nD τ) none (dst := (pr p c : Thread nD τ)) (κ := K (pr p c, none))
      (d := p) (by rw [duties_bar]; exact Finset.mem_univ _) (amount_bar m (pr p c) p) () O rfl (W := W))
    $$ [HO Ht Hg]
  · isplitr; · iapply (inv_at m K (pr p c, none)); iexact HR
    isplitl [HO]; · iexact HO
    isplitl [Ht]; · iexact Ht
    isplitl [Hg]; · rw [payload_bar, ← give_eq]; iexact Hg
    iapply (reached_at m K (pr p c, none)); iexact HR
  iintro HO
  iapply Hk
  iexists _; iexact HO

theorem wp_barrier {α : Type} {Q : α → sProp 𝕄} (c : Dev nD)
    {kt : PUnit → Prog (TpuEff nD τ sig (Elt F) Λ₀ .tc) α} :
    iprop(records m K ∗ levAts L lv ∗ cred (tallyAt (barCell c) () 3) ∗ owesAny c (O₀' c) ∗ atPos ER (barCell c) 0 ∅ 0)
      ⊢ iprop(((owesAny c (O₀' c) ∗ semVal (barCell c) 0 ∗ barPay c .x ∗ barPay c .y ∗ barPay c .d)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS 3) kt) Q) := by
  iintro ⟨#HR, #Hlev, Hc, ⟨%W, HO⟩, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O₀' c) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨Hx, Hy, Hd⟩
  imod (Rounds.cell_close ER (Rd m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz]; · iexact Hz
  isplitl [Hx]; · iexact Hx
  isplitl [Hy] <;> iassumption

end Comm

end Cert.KernelIdealProof

end
-- ==== Proof.Body.lean ====
/-
# The kernel's body, run once

Both grid points run the same steps on their own slots and semaphores; the first one first passes the barrier. The body
is run at a symbolic device, from the slots and the tokens a step starts with to the slots and the counters it leaves.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One block of each kind. -/
def all6 (f : Kd → sProp 𝕄) : sProp 𝕄 := iprop(f .hx ∗ f .hy ∗ f .hd ∗ f .rx ∗ f .ry ∗ f .rd)

/-! ## The value a step leaves in the output block -/

/-- The output block, from a device's blocks of the arguments, the three halo blocks that landed, and the channel sums:
    of the devices across `x`, across `y`, across both, and its own. -/
def outVal (c : Dev nD) (x : Vec F S1x128x128x64 .bf16) (k : Vec F S3x3x64 .bf16) (w : Vec F S64x64 .bf16)
    (lx ly : Vec F S1x1x128x64 .bf16) (ld : Vec F S1x1x64 .bf16) (sx sy sd so : Vec F S1x1x2x64 .f32) : Vec F S1x128x128x64 .bf16 :=
  k0_pay1 (k0_pay2 x) (k0_pay19 sx sy sd so) (k0_pay20 sx sy sd so)
    (k0_pay30 (k0_pay13 (colW c) (k0_pay2 x) ly)
      (k0_pay17 (rowW c) (colW c) (k0_pay11 (rowW c) (k0_pay2 x) lx) (k0_pay13 (colW c) (k0_pay2 x) ly) ld)
      (k0_pay21 sx sy sd so k)
      (k0_pay25 (k0_pay21 sx sy sd so k)
        (k0_pay22 (k0_pay2 x) (k0_pay10 (rowW c) (k0_pay2 x) lx) (k0_pay11 (rowW c) (k0_pay2 x) lx))
        (k0_pay23 (k0_pay2 x) (k0_pay10 (rowW c) (k0_pay2 x) lx) (k0_pay11 (rowW c) (k0_pay2 x) lx))
        (k0_pay24 sx sy sd so k))
      (k0_pay26 (k0_pay21 sx sy sd so k)
        (k0_pay22 (k0_pay2 x) (k0_pay10 (rowW c) (k0_pay2 x) lx) (k0_pay11 (rowW c) (k0_pay2 x) lx)))
      (k0_pay27 (k0_pay21 sx sy sd so k)
        (k0_pay22 (k0_pay2 x) (k0_pay10 (rowW c) (k0_pay2 x) lx) (k0_pay11 (rowW c) (k0_pay2 x) lx)))
      (k0_pay28 (k0_pay12 (colW c) (k0_pay2 x) ly)
        (k0_pay14 (rowW c) (colW c) (k0_pay10 (rowW c) (k0_pay2 x) lx) (k0_pay12 (colW c) (k0_pay2 x) ly) ld)
        (k0_pay16 (rowW c) (colW c) (k0_pay11 (rowW c) (k0_pay2 x) lx) (k0_pay12 (colW c) (k0_pay2 x) ly) ld))
      (k0_pay29 (k0_pay15 (rowW c) (colW c) (k0_pay10 (rowW c) (k0_pay2 x) lx) (k0_pay13 (colW c) (k0_pay2 x) ly) ld)))
    (k0_pay31 k) w

/-- Device `c`'s output block at step `i`. -/
def outAt (c : Dev nD) (i : Fin 2) : Vec F S1x128x128x64 .bf16 :=
  outVal c (xblk m c i) (kblk m c i) (wblk m c i) (sent m (peer .hx c) i .hx) (sent m (peer .hy c) i .hy) (sent m (peer .hd c) i .hd)
    (sent m (peer .rx c) i .rx) (sent m (peer .ry c) i .ry) (sent m (peer .rd c) i .rd) (redOut (xblk m c i))

/-! ## What a step starts with and what it leaves -/

/-- A block's two cells before the step: where they stand, the two tokens of its transfer, and the credit of its arrival. -/
def chan (c : Dev nD) (i : Fin 2) (k : Kd) : sProp 𝕄 :=
  iprop(atPos ER (sCell i k c) 0 ∅ 0 ∗ atPos ER (rCell i k c) 0 ∅ 0
    ∗ dutyTok ER (sCell i k c) 0 .x ∗ dutyTok ER (rCell i k (peer k c)) 0 .x ∗ cred (tallyAt (rCell i k c) () (amt i k)))
/-- The two cells after it: their counters at zero. -/
def shut (c : Dev nD) (i : Fin 2) (k : Kd) : sProp 𝕄 := iprop(semVal (sCell i k c) 0 ∗ semVal (rCell i k c) 0)
/-- The peers' slots that device `c` writes at step `i`. -/
def lands (c : Dev nD) (i : Fin 2) : sProp 𝕄 := all6 fun k => anySlot (peer k c) i k
/-- The device's own landing slots of step `i`. -/
def slots (c : Dev nD) (i : Fin 2) : sProp 𝕄 := all6 fun k => anySlot c i k
/-- The slots the device's own blocks of step `i` are sent from. -/
def srcs (c : Dev nD) (i : Fin 2) : sProp 𝕄 :=
  iprop((∃ Y, owns (c : Thread nD τ) (lineSlot (Memref.whole cc0_scratch0) i) fullShare Y)
    ∗ (∃ Y, owns (c : Thread nD τ) (lineSlot (Memref.whole cc0_scratch2) i) fullShare Y)
    ∗ (∃ Y, owns (c : Thread nD τ) (cornSlot (Memref.whole cc0_scratch4) i) fullShare Y)
    ∗ (∃ Y, owns (c : Thread nD τ) (redSlot (Memref.whole cc0_scratch6) i 3) fullShare Y))

/-- What the barrier needs of device `c`: its own cell, the tokens of the three it raises, the credit of the three that
    raise it, and its own landing slots. -/
def barIn (c : Dev nD) : sProp 𝕄 :=
  iprop(atPos ER (barCell c) 0 ∅ 0 ∗ dutyTok ER (barCell (pr .x c)) 0 .x ∗ dutyTok ER (barCell (pr .y c)) 0 .y
    ∗ dutyTok ER (barCell (pr .d c)) 0 .d ∗ cred (tallyAt (barCell c) () 3) ∗ slots c 0 ∗ slots c 1)

/-- Before step `0` the barrier is to come; before step `1` the peers' slots are at hand. -/
def enter (c : Dev nD) : Fin 2 → sProp 𝕄
  | 0 => barIn c
  | 1 => lands c 1
/-- After step `0` the barrier's counter is at zero and the peers' slots for step `1` are at hand. -/
def keep (c : Dev nD) : Fin 2 → sProp 𝕄
  | 0 => iprop(semVal (barCell c) 0 ∗ lands c 1)
  | 1 => iprop(emp)
/-- What a device owes before step `i`. -/
def owedBefore (c : Dev nD) : Fin 2 → CellTallies nD τ sig Unit
  | 0 => O₀ c
  | 1 => O₁ c

/-! ## The halo's and the sums' slots as the rules take them -/

section Src
variable (c : Dev nD) (i : Fin 2)
/-- What the barrier hands over: the peers' slots of both steps. -/
theorem bar_open : iprop(semVal (barCell c) 0 ∗ barPay c .x ∗ barPay c .y ∗ barPay c .d) ⊢ (iprop(keep c 0 ∗ lands c 0) : sProp 𝕄) := by
  unfold barPay keep lands all6
  iintro ⟨Hz, ⟨⟨hx0, rx0⟩, hx1, rx1⟩, ⟨⟨hy0, ry0⟩, hy1, ry1⟩, ⟨hd0, rd0⟩, hd1, rd1⟩
  isplitl [Hz hx1 hy1 hd1 rx1 ry1 rd1]
  · isplitl [Hz]; · iexact Hz
    isplitl [hx1]; · iexact hx1
    isplitl [hy1]; · iexact hy1
    isplitl [hd1]; · iexact hd1
    isplitl [rx1]; · iexact rx1
    isplitl [ry1]; · iexact ry1
    iexact rd1
  isplitl [hx0]; · iexact hx0
  isplitl [hy0]; · iexact hy0
  isplitl [hd0]; · iexact hd0
  isplitl [rx0]; · iexact rx0
  isplitl [ry0]; · iexact ry0
  iexact rd0

/-- What the device hands the three others. -/
theorem bar_give : iprop(slots c 0 ∗ slots c 1) ⊢ (iprop(give c .x ∗ give c .y ∗ give c .d) : sProp 𝕄) := by
  unfold give slots all6
  iintro ⟨⟨hx0, hy0, hd0, rx0, ry0, rd0⟩, hx1, hy1, hd1, rx1, ry1, rd1⟩
  isplitl [hx0 rx0 hx1 rx1]
  · isplitl [hx0 rx0]; · isplitl [hx0]; · iexact hx0
                         iexact rx0
    isplitl [hx1]; · iexact hx1
    iexact rx1
  isplitl [hy0 ry0 hy1 ry1]
  · isplitl [hy0 ry0]; · isplitl [hy0]; · iexact hy0
                         iexact ry0
    isplitl [hy1]; · iexact hy1
    iexact ry1
  isplitl [hd0 rd0]; · isplitl [hd0]; · iexact hd0
                       iexact rd0
  isplitl [hd1]; · iexact hd1
  iexact rd1

theorem sPay_hx : (owns (c : Thread nD τ) (lineSlot (Memref.whole cc0_scratch0) i) fullShare (k0_pay5 c (xblk m c i)) : sProp 𝕄) = sPay m c i .hx := rfl
theorem sPay_hy : (owns (c : Thread nD τ) (lineSlot (Memref.whole cc0_scratch2) i) fullShare (k0_pay6 (k0_pay4 c (xblk m c i))) : sProp 𝕄) = sPay m c i .hy := rfl
theorem sPay_hd : (owns (c : Thread nD τ) (cornSlot (Memref.whole cc0_scratch4) i) fullShare (k0_pay7 (colW c) (k0_pay3 c (xblk m c i))) : sProp 𝕄) = sPay m c i .hd := rfl

theorem own_sums : (owns (c : Thread nD τ) (redSlot (Memref.whole cc0_scratch6) i 3) fullShare
      (redJoin (k0_pay8 (k0_pay2 (xblk m c i))) (k0_pay9 (k0_pay2 (xblk m c i)))) : sProp 𝕄)
    = owns (c : Thread nD τ) (redSlot (Memref.whole cc0_scratch6) i 3) fullShare (redOut (xblk m c i)) := rfl

/-- The device's own sums in four quarters: three to be sent, one to be read. -/
theorem red_split : (owns (c : Thread nD τ) (redSlot (Memref.whole cc0_scratch6) i 3) fullShare (redOut (xblk m c i)) : sProp 𝕄)
    ⊣⊢ iprop((sPay m c i .rx ∗ sPay m c i .ry) ∗ (sPay m c i .rd
      ∗ owns (c : Thread nD τ) (redSlot (Memref.whole cc0_scratch6) i 3) fullShare.right.right (redOut (xblk m c i)))) := by
  unfold sPay shr
  refine (owns_halves (c : Thread nD τ) (redSlot (Memref.whole cc0_scratch6) i 3) fullShare _).trans ?_
  refine (sep_congr (owns_halves (c : Thread nD τ) (redSlot (Memref.whole cc0_scratch6) i 3) fullShare.left _)
    (owns_halves (c : Thread nD τ) (redSlot (Memref.whole cc0_scratch6) i 3) fullShare.right _)).trans ?_
  exact .rfl

end Src

/-! ## Three blocks at a time -/

section Three

variable (K : Dev nD × CK → ℕ) (c : Dev nD) (i : Fin 2)

def sendIn (k : Kd) : sProp 𝕄 :=
  iprop(sPay m c i k ∗ anySlot (peer k c) i k ∗ dutyTok ER (sCell i k c) 0 .x ∗ dutyTok ER (rCell i k (peer k c)) 0 .x)
def sendOut (k : Kd) : sProp 𝕄 := cred (tallyAt (sCell i k c) () (amt i k))
def landIn (k : Kd) : sProp 𝕄 := iprop(cred (tallyAt (rCell i k c) () (amt i k)) ∗ atPos ER (rCell i k c) 0 ∅ 0)
def landOut (k : Kd) : sProp 𝕄 := iprop(semVal (rCell i k c) 0 ∗ rPay m c i k)
def leftIn (k : Kd) : sProp 𝕄 := iprop(cred (tallyAt (sCell i k c) () (amt i k)) ∗ atPos ER (sCell i k c) 0 ∅ 0)
def leftOut (k : Kd) : sProp 𝕄 := iprop(semVal (sCell i k c) 0 ∗ sPay m c i k)

/-- The transfer of the block of kind `k` to device `n`. -/
abbrev sendOp (k : Kd) (n : Dev nD)
    (hsc : ((dstSlot i k).squeeze (sqSh k) (sq k) : Memref sig (Dev.tc n : Thread nD τ).2.kind .vmem (sqSh k) (slE k)).view.ref.isScScratch = false)
    (hsrc : ((srcSlot i k).squeeze (sqSh k) (sq k)).view.WordExact) (hdst : ((dstSlot i k).squeeze (sqSh k) (sq k)).view.WordExact)
    (hsem : (DmaTarget.remote (Dev.tc n : Thread nD τ) ((dstSlot i k).squeeze (sqSh k) (sq k)) (.dma (sS i k)) hsc :
      DmaTarget nD τ sig .tc .vmem (sqSh k) (slE k)).Typed .vmem (.dma (sR i k))) :
    TpuEff nD τ sig (Elt F) Λ₀ .tc PUnit :=
  .enqueueDma ((srcSlot i k).squeeze (sqSh k) (sq k)) (.remote (Dev.tc n : Thread nD τ) ((dstSlot i k).squeeze (sqSh k) (sq k)) (.dma (sS i k)) hsc)
    (.dma (sR i k)) hsrc hdst hsem

theorem wp_three_sends {α : Type} {Q : α → sProp 𝕄} {i : Fin 2} {co : grid0.Coords} (hco : (co 0).val = i.val) (k1 k2 k3 : Kd) (n1 n2 n3 : Dev nD)
    (hn1 : n1 = peer k1 c) (hn2 : n2 = peer k2 c) (hn3 : n3 = peer k3 c) (B : CellTallies nD τ sig Unit)
    {p1 q1 r1 s1 p2 q2 r2 s2 p3 q3 r3 s3} {kt : Prog (TpuEff nD τ sig (Elt F) Λ₀ .tc) α} :
    iprop(records m K ∗ (sendIn m c i k1 ∗ sendIn m c i k2 ∗ sendIn m c i k3)
        ∗ owesAny c (B + oweR c i k3 + oweR c i k2 + oweR c i k1))
      ⊢ iprop((((sendOut c i k1 ∗ sendOut c i k2 ∗ sendOut c i k3) ∗ owesAny c B)
            -∗ wp frame (wpE (defs₀ (F := F)) 𝒱₀ (c : Thread nD τ) none) Set.univ kt Q)
          -∗ wp frame (wpE (defs₀ (F := F)) 𝒱₀ (c : Thread nD τ) none) Set.univ
              (.op (sendOp i k1 n1 p1 q1 r1 s1) fun _ => .op (sendOp i k2 n2 p2 q2 r2 s2) fun _ => .op (sendOp i k3 n3 p3 q3 r3 s3) fun _ => kt) Q) := by
  unfold sendIn sendOut
  iintro ⟨#HR, ⟨⟨P1, D1, S1, R1⟩, ⟨P2, D2, S2, R2⟩, P3, D3, S3, R3⟩, HO⟩ Hk
  iapply (wp_send_block m K c n1 i k1 hn1 (B + oweR c i k3 + oweR c i k2)) $$ [P1 D1 S1 R1 HO]
  · isplitr; · iexact HR
    isplitl [P1]; · iexact P1
    isplitl [D1]; · iexact D1
    isplitl [HO]; · iexact HO
    isplitl [S1] <;> iassumption
  iintro ⟨C1, HO⟩
  iapply (wp_send_block m K c n2 i k2 hn2 (B + oweR c i k3)) $$ [P2 D2 S2 R2 HO]
  · isplitr; · iexact HR
    isplitl [P2]; · iexact P2
    isplitl [D2]; · iexact D2
    isplitl [HO]; · iexact HO
    isplitl [S2] <;> iassumption
  iintro ⟨C2, HO⟩
  iapply (wp_send_block m K c n3 i k3 hn3 B) $$ [P3 D3 S3 R3 HO]
  · isplitr; · iexact HR
    isplitl [P3]; · iexact P3
    isplitl [D3]; · iexact D3
    isplitl [HO]; · iexact HO
    isplitl [S3] <;> iassumption
  iintro ⟨C3, HO⟩
  iapply Hk
  isplitr [HO]
  · isplitl [C1]; · iexact C1
    isplitl [C2] <;> iassumption
  iexact HO

theorem wp_three_landed {α : Type} {Q : α → sProp 𝕄} {i : Fin 2} {co : grid0.Coords} (hco : (co 0).val = i.val) (k1 k2 k3 : Kd) {s1 s2 s3 t1 t2 t3 : Shape} {e1 e2 e3 f1 f2 f3 : EltTy}
    {a1 : Memref sig .tc .vmem t1 f1} {a2 : Memref sig .tc .vmem t2 f2} {a3 : Memref sig .tc .vmem t3 f3}
    {b1 : Memref sig .tc .vmem s1 e1} {b2 : Memref sig .tc .vmem s2 e2} {b3 : Memref sig .tc .vmem s3 e3} {p1 q1 p2 q2 p3 q3}
    (h1 : b1.view.dmaCredit = amt i k1) (h2 : b2.view.dmaCredit = amt i k2) (h3 : b3.view.dmaCredit = amt i k3)
    {kt : Prog (TpuEff nD τ sig (Elt F) Λ₀ .tc) α} :
    iprop(records m K ∗ levAts L lv ∗ (landIn c i k1 ∗ landIn c i k2 ∗ landIn c i k3) ∗ owesAny c (owedAfter c i))
      ⊢ iprop((((landOut m c i k1 ∗ landOut m c i k2 ∗ landOut m c i k3) ∗ owesAny c (owedAfter c i))
            -∗ wp frame (wpE (defs₀ (F := F)) 𝒱₀ (c : Thread nD τ) none) Set.univ kt Q)
          -∗ wp frame (wpE (defs₀ (F := F)) 𝒱₀ (c : Thread nD τ) none) Set.univ
              (.op (.waitDma2 (sR i k1) a1 b1 p1 q1) fun _ => .op (.waitDma2 (sR i k2) a2 b2 p2 q2) fun _ => .op (.waitDma2 (sR i k3) a3 b3 p3 q3) fun _ => kt) Q) := by
  unfold landIn landOut
  iintro ⟨#HR, #Hlev, ⟨⟨C1, A1⟩, ⟨C2, A2⟩, C3, A3⟩, HO⟩ Hk
  iapply (wp_landed m K c i k1 h1) $$ [C1 A1 HO]
  · isplitr; · iexact HR
    isplitr; · iexact Hlev
    isplitl [C1]; · iexact C1
    isplitl [HO] <;> iassumption
  iintro ⟨HO, Z1⟩
  iapply (wp_landed m K c i k2 h2) $$ [C2 A2 HO]
  · isplitr; · iexact HR
    isplitr; · iexact Hlev
    isplitl [C2]; · iexact C2
    isplitl [HO] <;> iassumption
  iintro ⟨HO, Z2⟩
  iapply (wp_landed m K c i k3 h3) $$ [C3 A3 HO]
  · isplitr; · iexact HR
    isplitr; · iexact Hlev
    isplitl [C3]; · iexact C3
    isplitl [HO] <;> iassumption
  iintro ⟨HO, Z3⟩
  iapply Hk
  isplitr [HO]
  · isplitl [Z1]; · iexact Z1
    isplitl [Z2] <;> iassumption
  iexact HO

theorem wp_three_left {α : Type} {Q : α → sProp 𝕄} {i : Fin 2} {co : grid0.Coords} (hco : (co 0).val = i.val) (k1 k2 k3 : Kd) {s1 s2 s3 t1 t2 t3 : Shape} {e1 e2 e3 f1 f2 f3 : EltTy}
    {a1 : Memref sig .tc .vmem t1 f1} {a2 : Memref sig .tc .vmem t2 f2} {a3 : Memref sig .tc .vmem t3 f3}
    {b1 : Memref sig .tc .vmem s1 e1} {b2 : Memref sig .tc .vmem s2 e2} {b3 : Memref sig .tc .vmem s3 e3} {p1 q1 p2 q2 p3 q3}
    (h1 : b1.view.dmaCredit = amt i k1) (h2 : b2.view.dmaCredit = amt i k2) (h3 : b3.view.dmaCredit = amt i k3)
    {kt : Prog (TpuEff nD τ sig (Elt F) Λ₀ .tc) α} :
    iprop(records m K ∗ levAts L lv ∗ (leftIn c i k1 ∗ leftIn c i k2 ∗ leftIn c i k3) ∗ owesAny c (owedAfter c i))
      ⊢ iprop((((leftOut m c i k1 ∗ leftOut m c i k2 ∗ leftOut m c i k3) ∗ owesAny c (owedAfter c i))
            -∗ wp frame (wpE (defs₀ (F := F)) 𝒱₀ (c : Thread nD τ) none) Set.univ kt Q)
          -∗ wp frame (wpE (defs₀ (F := F)) 𝒱₀ (c : Thread nD τ) none) Set.univ
              (.op (.waitDma2 (sS i k1) a1 b1 p1 q1) fun _ => .op (.waitDma2 (sS i k2) a2 b2 p2 q2) fun _ => .op (.waitDma2 (sS i k3) a3 b3 p3 q3) fun _ => kt) Q) := by
  unfold leftIn leftOut
  iintro ⟨#HR, #Hlev, ⟨⟨C1, A1⟩, ⟨C2, A2⟩, C3, A3⟩, HO⟩ Hk
  iapply (wp_left m K c i k1 h1) $$ [C1 A1 HO]
  · isplitr; · iexact HR
    isplitr; · iexact Hlev
    isplitl [C1]; · iexact C1
    isplitl [HO] <;> iassumption
  iintro ⟨HO, Z1⟩
  iapply (wp_left m K c i k2 h2) $$ [C2 A2 HO]
  · isplitr; · iexact HR
    isplitr; · iexact Hlev
    isplitl [C2]; · iexact C2
    isplitl [HO] <;> iassumption
  iintro ⟨HO, Z2⟩
  iapply (wp_left m K c i k3 h3) $$ [C3 A3 HO]
  · isplitr; · iexact HR
    isplitr; · iexact Hlev
    isplitl [C3]; · iexact C3
    isplitl [HO] <;> iassumption
  iintro ⟨HO, Z3⟩
  iapply Hk
  isplitr [HO]
  · isplitl [Z1]; · iexact Z1
    isplitl [Z2] <;> iassumption
  iexact HO

end Three

/-! ## The body -/

/-- The kernel's test "this is step `n`". -/
abbrev isStep (co : grid0.Coords) (n : BitVec 32) : BitVec 1 :=
  Scalar.cmpi .ne (Scalar.extui (Scalar.cmpi .eq (BitVec.ofNat 32 (co 0).val) n) : BitVec 32) 0#32

/-- The tests at the coordinates of step `i`. -/
theorem isStep_cases (co : grid0.Coords) (i : Fin 2) (hco : (co 0).val = i.val) :
    (i = 0 ∧ (isStep co 0#32 = 1#1) = True ∧ (isStep co 1#32 = 1#1) = False)
      ∨ (i = 1 ∧ (isStep co 0#32 = 1#1) = False ∧ (isStep co 1#32 = 1#1) = True) := by
  unfold isStep; rw [hco]; clear hco; revert i; decide

section Body

variable (K : Dev nD × CK → ℕ) (c : Dev nD)

/-- What step `i` starts with. -/
def stepPre (i : Fin 2) (W : Waits sig Unit) (a1 : Memref sig .tc .vmem S1x128x128x64 .bf16) (a2 : Memref sig .tc .vmem S3x3x64 .bf16)
    (a3 : Memref sig .tc .vmem S64x64 .bf16) (a4 : Memref sig .tc .vmem S1x128x128x64 .bf16) : sProp 𝕄 :=
  iprop(records m K ∗ levAts L lv ∗ enter c i ∗ all6 (chan c i) ∗ srcs c i ∗ owes (c : Thread nD τ) (owedBefore c i) W
    ∗ owns (c : Thread nD τ) a1 fullShare (xblk m c i) ∗ owns (c : Thread nD τ) a2 fullShare (kblk m c i)
    ∗ owns (c : Thread nD τ) a3 fullShare (wblk m c i) ∗ (∃ Y, owns (c : Thread nD τ) a4 fullShare Y))

/-- What step `i` leaves. -/
def stepPost (i : Fin 2) (a1 : Memref sig .tc .vmem S1x128x128x64 .bf16) (a2 : Memref sig .tc .vmem S3x3x64 .bf16)
    (a3 : Memref sig .tc .vmem S64x64 .bf16) (a4 : Memref sig .tc .vmem S1x128x128x64 .bf16) : sProp 𝕄 :=
  iprop(keep c i ∗ all6 (shut c i) ∗ srcs c i ∗ slots c i ∗ (∃ W, owes (c : Thread nD τ) (owedAfter c i) W)
    ∗ owns (c : Thread nD τ) a1 fullShare (xblk m c i) ∗ owns (c : Thread nD τ) a2 fullShare (kblk m c i)
    ∗ owns (c : Thread nD τ) a3 fullShare (wblk m c i) ∗ owns (c : Thread nD τ) a4 fullShare (outAt m c i))

set_option maxHeartbeats 4000000 in
/-- The body at step `i`, run from `stepPre` to `stepPost`. -/
theorem sound_step (i : Fin 2) (co : grid0.Coords) (hco : (co 0).val = i.val) (W : Waits sig Unit)
    {a1 h1 a2 h2 a3 h3 a4 h4} (Kt : PUnit → sProp 𝕄) :
    iprop(stepPre m K c i W a1 a2 a3 a4 ∗ (stepPost m c i a1 a2 a3 a4 -∗ Kt ⟨⟩))
      ⊢ wp frame (wpE (defs₀ (F := F)) 𝒱₀ c none) Set.univ
          (cc0_body (F := F) co a1 h1 a2 h2 a3 h3 a4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scratch9 cc0_scratch10) Kt := by
  have o1 := (k0_off1_eq co).trans (by rw [hco] : _ = ![i.val, 0, 0, 0])
  have o2 := (k0_off2_eq co).trans (by rw [hco] : _ = ![i.val, 0, 0])
  have o3 := (k0_off3_eq co).trans (by rw [hco] : _ = ![i.val, 3, 0, 0])
  have o4 := (k0_off4_eq co).trans (by rw [hco] : _ = ![i.val, 3, 1, 0])
  have o5 : k0_off5 co = ![i.val, (0 : Fin 4).val, 0, 0] := (k0_off5_eq co).trans (by rw [hco]; rfl)
  have o6 : k0_off6 co = ![i.val, (1 : Fin 4).val, 0, 0] := (k0_off6_eq co).trans (by rw [hco]; rfl)
  have o7 : k0_off7 co = ![i.val, (2 : Fin 4).val, 0, 0] := (k0_off7_eq co).trans (by rw [hco]; rfl)
  have o8 : k0_off8 co = ![i.val, (3 : Fin 4).val, 0, 0] := (k0_off8_eq co).trans (by rw [hco]; rfl)
  unfold stepPre stepPost srcs chan
  rcases isStep_cases co i hco with ⟨rfl, e0, e1⟩ | ⟨rfl, e0, e1⟩
  all_goals
    simp only [cc0_body_eq_skeleton, cc0_body_skel, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton, k0_part16_eq_skeleton,
      k0_part17_eq_skeleton, k0_part1_skel, k0_part2_skel, k0_part3_skel, k0_part4_skel, k0_part5_skel, k0_part6_skel, k0_part7_skel,
      k0_part8_skel, k0_part9_skel, k0_part10_skel, k0_part11_skel, k0_part12_skel, k0_part13_skel, k0_part14_skel, k0_part15_skel,
      k0_part16_skel, k0_part17_skel, semSignalWord, semWaitWord, Prog.lift, Prog.bind_op, Prog.bind_ret, Prog.pure_eq_ret, bind_assoc, wp_deviceId,
      show (k0_cond1 co = 1#1) = _ from e0, show (k0_cond2 co = 1#1) = _ from e0, show (k0_cond3 co = 1#1) = _ from e1,
      show (k0_cond4 co = 1#1) = _ from e0, show (k0_cond5 co = 1#1) = _ from e1, e0, e1, dite_true, dite_false]
    iintro ⟨⟨#HR, #Hlev, Hent, Hch, ⟨Hsx, Hsy, Hsd, Hsr⟩, HO, Ha1, Ha2, Ha3, ⟨%Y4, Ha4⟩⟩, Hk⟩
    unfold all6
    icases Hch with ⟨⟨Ashx, Arhx, Tshx, Trhx, Chx⟩, ⟨Ashy, Arhy, Tshy, Trhy, Chy⟩, ⟨Ashd, Arhd, Tshd, Trhd, Chd⟩, ⟨Asrx, Arrx, Tsrx, Trrx, Crx⟩, ⟨Asry, Arry, Tsry, Trry, Cry⟩, ⟨Asrd, Arrd, Tsrd, Trrd, Crd⟩⟩
  -- the barrier, at step `0`; before step `1` the peers' slots are at hand already
  iterate 1
    unfold enter barIn
    icases Hent with ⟨HatB, Hbx, Hby, Hbd, HcB, Hsl⟩
    ihave Hg := (bar_give c) $$ Hsl
    icases Hg with ⟨Hgx, Hgy, Hgd⟩
    iapply (wp_signal_peer m K c _ .x (devx_eq c _ (k0_dev1_eq c)) (O₀' c + oweB c .d + oweB c .y)) $$ [HO Hbx Hgx]
    · isplitr; · iexact HR
      isplitl [HO]; · iexists W; iexact HO
      isplitl [Hbx] <;> iassumption
    iintro HO
    iapply (wp_signal_peer m K c _ .y (devy_eq c _ (k0_dev2_eq c)) (O₀' c + oweB c .d)) $$ [HO Hby Hgy]
    · isplitr; · iexact HR
      isplitl [HO]; · iexact HO
      isplitl [Hby] <;> iassumption
    iintro HO
    iapply (wp_signal_peer m K c _ .d (devd_eq c _ (k0_dev3_eq c)) (O₀' c)) $$ [HO Hbd Hgd]
    · isplitr; · iexact HR
      isplitl [HO]; · iexact HO
      isplitl [Hbd] <;> iassumption
    iintro HO
    iapply (wp_barrier m K c) $$ [HcB HO HatB]
    · isplitr; · iexact HR
      isplitr; · iexact Hlev
      isplitl [HcB]; · iexact HcB
      isplitl [HO] <;> iassumption
    iintro ⟨HO, Hb⟩
    ihave Hb' := (bar_open c) $$ Hb
    icases Hb' with ⟨Hkeep, Hland⟩
    ihave HO := (show owesAny c (O₀' c) ⊢ (owesAny c (owedHalo c 0 (owedRed c 0 (owedAfter c 0))) : sProp 𝕄) from .rfl) $$ HO
    rotate_left
  iterate 1
    ihave Hland := (show enter c 1 ⊢ (lands c 1 : sProp 𝕄) from .rfl) $$ Hent
    ihave Hkeep := (show (iprop(emp) : sProp 𝕄) ⊢ keep c 1 from .rfl) $$ []
    · iempintro
    ihave HO := (show owes (c : Thread nD τ) (owedBefore c 1) W ⊢ (owesAny c (owedHalo c 1 (owedRed c 1 (owedAfter c 1))) : sProp 𝕄) from by
      iintro H; iexists W; iexact H) $$ HO
    rotate_left
  all_goals
    unfold lands all6
    icases Hland with ⟨Lhx, Lhy, Lhd, Lrx, Lry, Lrd⟩
    -- the block of `x` is read, the edges stored
    iapply (wp_load_owned c) $$ Ha1
    iintro Ha1
    icases Hsx with ⟨%Yx, Hsx⟩
    iapply (wp_load_slot c o1) $$ Hsx
    iintro Hsx
    iapply (wp_store_slot c o1) $$ Hsx
    iintro Hsx
    icases Hsy with ⟨%Yy, Hsy⟩
    iapply (wp_load_slot c o1) $$ Hsy
    iintro Hsy
    iapply (wp_store_slot c o1) $$ Hsy
    iintro Hsy
    icases Hsd with ⟨%Yd, Hsd⟩
    iapply (wp_load_slot c o2) $$ Hsd
    iintro Hsd
    iapply (wp_store_slot c o2) $$ Hsd
    iintro Hsd
    -- the three halo blocks leave
    unfold owedHalo
    iapply (wp_three_sends m K c hco .hx .hy .hd _ _ _ (by first | exact devx_eq c _ (k0_dev4_eq c) | exact devx_eq c _ (k0_dev7_eq c)) (by first | exact devy_eq c _ (k0_dev5_eq c) | exact devy_eq c _ (k0_dev8_eq c)) (by first | exact devd_eq c _ (k0_dev6_eq c) | exact devd_eq c _ (k0_dev9_eq c)) _) $$ [Hsx Hsy Hsd Lhx Lhy Lhd Tshx Trhx Tshy Trhy Tshd Trhd HO]
    · unfold sendIn
      isplitr; · iexact HR
      isplitr [HO]
      · isplitl [Hsx Lhx Tshx Trhx]
        · isplitl [Hsx]; · iapply (Entails.of_eq (sPay_hx m c _)); iexact Hsx
          isplitl [Lhx]; · iexact Lhx
          isplitl [Tshx] <;> iassumption
        isplitl [Hsy Lhy Tshy Trhy]
        · isplitl [Hsy]; · iapply (Entails.of_eq (sPay_hy m c _)); iexact Hsy
          isplitl [Lhy]; · iexact Lhy
          isplitl [Tshy] <;> iassumption
        isplitl [Hsd]; · iapply (Entails.of_eq (sPay_hd m c _)); iexact Hsd
        isplitl [Lhd]; · iexact Lhd
        isplitl [Tshd] <;> iassumption
      iexact HO
    unfold sendOut
    iintro ⟨⟨Shx, Shy, Shd⟩, HO⟩
    -- the channel sums are stored, and leave
    iapply (wp_red_stores c (Memref.whole cc0_scratch6) _ o3 o4) $$ Hsr
    iintro Hsr
    ihave Hsr := (Entails.of_eq (own_sums m c _)) $$ Hsr
    ihave Hr := (red_split m c _).1 $$ Hsr
    icases Hr with ⟨⟨Qrx, Qry⟩, Qrd, Hown⟩
    unfold owedRed
    iapply (wp_three_sends m K c hco .rx .ry .rd _ _ _ (by first | exact devx_eq c _ (k0_dev10_eq c) | exact devx_eq c _ (k0_dev13_eq c)) (by first | exact devy_eq c _ (k0_dev11_eq c) | exact devy_eq c _ (k0_dev14_eq c)) (by first | exact devd_eq c _ (k0_dev12_eq c) | exact devd_eq c _ (k0_dev15_eq c)) _) $$ [Qrx Qry Qrd Lrx Lry Lrd Tsrx Trrx Tsry Trry Tsrd Trrd HO]
    · unfold sendIn
      isplitr; · iexact HR
      isplitr [HO]
      · isplitl [Qrx Lrx Tsrx Trrx]
        · isplitl [Qrx]; · iexact Qrx
          isplitl [Lrx]; · iexact Lrx
          isplitl [Tsrx] <;> iassumption
        isplitl [Qry Lry Tsry Trry]
        · isplitl [Qry]; · iexact Qry
          isplitl [Lry]; · iexact Lry
          isplitl [Tsry] <;> iassumption
        isplitl [Qrd]; · iexact Qrd
        isplitl [Lrd]; · iexact Lrd
        isplitl [Tsrd] <;> iassumption
      iexact HO
    unfold sendOut
    iintro ⟨⟨Srx, Sry, Srd⟩, HO⟩
    -- the six blocks of the peers land
    iapply (wp_three_landed m K c hco .hx .hy .hd (by rfl) (by rfl) (by rfl)) $$ [Chx Arhx Chy Arhy Chd Arhd HO]
    · unfold landIn
      isplitr; · iexact HR
      isplitr; · iexact Hlev
      isplitr [HO]
      · isplitl [Chx Arhx]; · isplitl [Chx] <;> iassumption
        isplitl [Chy Arhy]; · isplitl [Chy] <;> iassumption
        isplitl [Chd] <;> iassumption
      iexact HO
    unfold landOut
    iintro ⟨⟨⟨Zrhx, Vhx⟩, ⟨Zrhy, Vhy⟩, Zrhd, Vhd⟩, HO⟩
    iapply (wp_three_landed m K c hco .rx .ry .rd (by rfl) (by rfl) (by rfl)) $$ [Crx Arrx Cry Arry Crd Arrd HO]
    · unfold landIn
      isplitr; · iexact HR
      isplitr; · iexact Hlev
      isplitr [HO]
      · isplitl [Crx Arrx]; · isplitl [Crx] <;> iassumption
        isplitl [Cry Arry]; · isplitl [Cry] <;> iassumption
        isplitl [Crd] <;> iassumption
      iexact HO
    unfold landOut
    iintro ⟨⟨⟨Zrrx, Vrx⟩, ⟨Zrry, Vry⟩, Zrrd, Vrd⟩, HO⟩
    -- what landed is read, and the device's own sums and arguments
    unfold rPay
    iapply (wp_load_slot c o1) $$ Vhx
    iintro Vhx
    iapply (wp_load_slot c o1) $$ Vhx
    iintro Vhx
    iapply (wp_load_slot c o1) $$ Vhy
    iintro Vhy
    iapply (wp_load_slot c o1) $$ Vhy
    iintro Vhy
    iapply (wp_load_slot c o2) $$ Vhd
    iintro Vhd
    iapply (wp_load_slot c o2) $$ Vhd
    iintro Vhd
    iapply (wp_load_slot c o2) $$ Vhd
    iintro Vhd
    iapply (wp_load_slot c o2) $$ Vhd
    iintro Vhd
    iapply (wp_load_slot c o5) $$ Vrx
    iintro Vrx
    iapply (wp_load_slot c o6) $$ Vry
    iintro Vry
    iapply (wp_load_slot c o7) $$ Vrd
    iintro Vrd
    iapply (wp_load_slot c o8) $$ Hown
    iintro Hown
    iapply (wp_load_owned c) $$ Ha2
    iintro Ha2
    iapply (wp_load_owned c) $$ Ha2
    iintro Ha2
    iapply (wp_load_owned c) $$ Ha3
    iintro Ha3
    iapply (wp_load_owned c) $$ Ha4
    iintro Ha4
    iapply (wp_store_owned c) $$ Ha4
    iintro Ha4
    -- the device's own six blocks have left
    iapply (wp_three_left m K c hco .hx .hy .hd (by rfl) (by rfl) (by rfl)) $$ [Shx Ashx Shy Ashy Shd Ashd HO]
    · unfold leftIn
      isplitr; · iexact HR
      isplitr; · iexact Hlev
      isplitr [HO]
      · isplitl [Shx Ashx]; · isplitl [Shx] <;> iassumption
        isplitl [Shy Ashy]; · isplitl [Shy] <;> iassumption
        isplitl [Shd] <;> iassumption
      iexact HO
    unfold leftOut
    iintro ⟨⟨⟨Zshx, Phx⟩, ⟨Zshy, Phy⟩, Zshd, Phd⟩, HO⟩
    iapply (wp_three_left m K c hco .rx .ry .rd (by rfl) (by rfl) (by rfl)) $$ [Srx Asrx Sry Asry Srd Asrd HO]
    · unfold leftIn
      isplitr; · iexact HR
      isplitr; · iexact Hlev
      isplitr [HO]
      · isplitl [Srx Asrx]; · isplitl [Srx] <;> iassumption
        isplitl [Sry Asry]; · isplitl [Sry] <;> iassumption
        isplitl [Srd] <;> iassumption
      iexact HO
    unfold leftOut
    iintro ⟨⟨⟨Zsrx, Prx⟩, ⟨Zsry, Pry⟩, Zsrd, Prd⟩, HO⟩
    rw [wp_ret]; imodintro
    iapply Hk
    isplitl [Hkeep]; · iexact Hkeep
    isplitl [Zshx Zrhx Zshy Zrhy Zshd Zrhd Zsrx Zrrx Zsry Zrry Zsrd Zrrd]
    · unfold shut
      isplitl [Zshx Zrhx]; · isplitl [Zshx] <;> iassumption
      isplitl [Zshy Zrhy]; · isplitl [Zshy] <;> iassumption
      isplitl [Zshd Zrhd]; · isplitl [Zshd] <;> iassumption
      isplitl [Zsrx Zrrx]; · isplitl [Zsrx] <;> iassumption
      isplitl [Zsry Zrry]; · isplitl [Zsry] <;> iassumption
      isplitl [Zsrd] <;> iassumption
    isplitl [Phx Phy Phd Prx Pry Prd Hown]
    · ihave Hr := (red_split m c _).2 $$ [Prx Pry Prd Hown]
      · isplitl [Prx Pry]; · isplitl [Prx] <;> iassumption
        isplitl [Prd] <;> iassumption
      unfold sPay
      isplitl [Phx]; · iexists _; iexact Phx
      isplitl [Phy]; · iexists _; iexact Phy
      isplitl [Phd]; · iexists _; iexact Phd
      iexists _; iexact Hr
    isplitl [Vhx Vhy Vhd Vrx Vry Vrd]
    · unfold slots all6
      isplitl [Vhx]; · iexists _; iexact Vhx
      isplitl [Vhy]; · iexists _; iexact Vhy
      isplitl [Vhd]; · iexists _; iexact Vhd
      isplitl [Vrx]; · iexists _; iexact Vrx
      isplitl [Vry]; · iexists _; iexact Vry
      iexists _; iexact Vrd
    isplitl [HO]; · iexact HO
    isplitl [Ha1]; · iexact Ha1
    isplitl [Ha2]; · iexact Ha2
    isplitl [Ha3]; · iexact Ha3
    unfold outAt outVal
    iexact Ha4

end Body

end Cert.KernelIdealProof

end
-- ==== Proof.Cut.lean ====
/-
# The scratch buffers and their slots

Before the first step each scratch buffer is cut into the slots the two steps use; after the last one they are joined.
-/
module

public import proofs.«01_k».proof.Proof.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting a buffer -/

section Cut

variable {sp : Space} {s : Shape} {e : EltTy} {T : Type} [Fintype T] [DecidableEq T]

theorem any_intro (c : Dev nD) (b : Memref sig .tc sp s e) (X : s.Idx → Elt F e) :
    (owns (c : Thread nD τ) b fullShare X : sProp 𝕄) ⊢ iprop(∃ Y, owns (c : Thread nD τ) b fullShare Y) := by
  iintro H; iexists X; iexact H

theorem any_sat (c : Dev nD) (b : Memref sig .tc sp s e) :
    (iprop(∃ Y, owns (c : Thread nD τ) b fullShare Y) : sProp 𝕄) ⊢ ownsSat (c : Thread nD τ) b fullShare fun _ => True := by
  iintro ⟨%Y, H⟩
  iapply (ownsSat_intro (c : Thread nD τ) b fullShare (Φ := fun _ => True) (X := Y) trivial)
  iexact H

/-- A memref that holds something is each of its slices, of a family that covers it without overlap, holding something, -/
theorem any_cut (c : Dev nD) (b : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    (iprop(∃ X, owns (c : Thread nD τ) b fullShare X) : sProp 𝕄)
      ⊢ bigSep Finset.univ fun t => iprop(∃ Y, owns (c : Thread nD τ) (b.slice (r t) (hr t)) fullShare Y) := by
  iintro ⟨%X, H⟩
  iapply (show (owns (c : Thread nD τ) b fullShare X : sProp 𝕄) ⊢ bigSep Finset.univ fun t => iprop(∃ Y, owns (c : Thread nD τ) (b.slice (r t) (hr t)) fullShare Y) from
    (owns_rects (c : Thread nD τ) b fullShare r hr hd hcov X).trans (bigSep_mono fun t _ => any_intro c (b.slice (r t) (hr t)) _))
  iexact H

/-- and back. -/
theorem any_join (c : Dev nD) (b : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => iprop(∃ Y, owns (c : Thread nD τ) (b.slice (r t) (hr t)) fullShare Y))
      ⊢ (iprop(∃ X, owns (c : Thread nD τ) b fullShare X) : sProp 𝕄) :=
  (bigSep_mono fun t _ => any_sat c (b.slice (r t) (hr t))).trans ((ownsSat_of_rects (c : Thread nD τ) b fullShare r hr hd hcov fun _ _ => True).trans (ownsSat_any (c : Thread nD τ) b fullShare))

end Cut

/-- A whole buffer at some contents, as its memref owned. -/
theorem any_whole (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  refine congrArg BIBase.«exists» (funext fun f => ?_)
  exact (owns_whole (c : Thread nD τ) b fullShare f).symm

/-! ## The two halves of the buffers of lines and of corners, and the eight slots of the sums -/

theorem line_disj (t t' : Fin 2) (h : t ≠ t') :
    Disjoint (Rect.unit (s := S2x1x128x64) ![t.val, 0, 0, 0] S1x1x128x64.size (inbL t)).set (Rect.unit (s := S2x1x128x64) ![t'.val, 0, 0, 0] S1x1x128x64.size (inbL t')).set :=
  Rect.unit_disjoint 0 (show t.val + 1 ≤ t'.val ∨ t'.val + 1 ≤ t.val by have := fun e => h (Fin.ext e); omega)
theorem corn_disj (t t' : Fin 2) (h : t ≠ t') :
    Disjoint (Rect.unit (s := S2x1x64) ![t.val, 0, 0] S1x1x64.size (inbC t)).set (Rect.unit (s := S2x1x64) ![t'.val, 0, 0] S1x1x64.size (inbC t')).set :=
  Rect.unit_disjoint 0 (show t.val + 1 ≤ t'.val ∨ t'.val + 1 ≤ t.val by have := fun e => h (Fin.ext e); omega)
theorem red_disj (t t' : Fin 2 × Fin 4) (h : t ≠ t') :
    Disjoint (Rect.unit (s := S2x4x2x64) ![t.1.val, t.2.val, 0, 0] S1x1x2x64.size (inbR t.1 t.2)).set
      (Rect.unit (s := S2x4x2x64) ![t'.1.val, t'.2.val, 0, 0] S1x1x2x64.size (inbR t'.1 t'.2)).set := by
  by_cases h1 : t.1.val = t'.1.val
  · refine Rect.unit_disjoint 1 (show t.2.val + 1 ≤ t'.2.val ∨ t'.2.val + 1 ≤ t.2.val from ?_)
    have : t.2.val ≠ t'.2.val := fun e => h (Prod.ext (Fin.ext h1) (Fin.ext e))
    omega
  · exact Rect.unit_disjoint 0 (show t.1.val + 1 ≤ t'.1.val ∨ t'.1.val + 1 ≤ t.1.val by omega)

theorem line_cover : (Finset.univ : Finset (Fin 2)).biUnion (fun t => (Rect.unit (s := S2x1x128x64) ![t.val, 0, 0, 0] S1x1x128x64.size (inbL t)).set) = Finset.univ :=
  Finset.eq_univ_iff_forall.mpr fun x => Finset.mem_biUnion.mpr ⟨x 0, Finset.mem_univ _, Rect.mem_set_unit.mpr fun a => match a with
    | 0 => ⟨Nat.le_refl _, Nat.lt_succ_self _⟩
    | 1 => ⟨Nat.zero_le _, (Nat.zero_add _).symm ▸ (x 1).isLt⟩
    | 2 => ⟨Nat.zero_le _, (Nat.zero_add _).symm ▸ (x 2).isLt⟩
    | 3 => ⟨Nat.zero_le _, (Nat.zero_add _).symm ▸ (x 3).isLt⟩⟩
theorem corn_cover : (Finset.univ : Finset (Fin 2)).biUnion (fun t => (Rect.unit (s := S2x1x64) ![t.val, 0, 0] S1x1x64.size (inbC t)).set) = Finset.univ :=
  Finset.eq_univ_iff_forall.mpr fun x => Finset.mem_biUnion.mpr ⟨x 0, Finset.mem_univ _, Rect.mem_set_unit.mpr fun a => match a with
    | 0 => ⟨Nat.le_refl _, Nat.lt_succ_self _⟩
    | 1 => ⟨Nat.zero_le _, (Nat.zero_add _).symm ▸ (x 1).isLt⟩
    | 2 => ⟨Nat.zero_le _, (Nat.zero_add _).symm ▸ (x 2).isLt⟩⟩
theorem red_cover : (Finset.univ : Finset (Fin 2 × Fin 4)).biUnion
    (fun t => (Rect.unit (s := S2x4x2x64) ![t.1.val, t.2.val, 0, 0] S1x1x2x64.size (inbR t.1 t.2)).set) = Finset.univ :=
  Finset.eq_univ_iff_forall.mpr fun x => Finset.mem_biUnion.mpr ⟨(x 0, x 1), Finset.mem_univ _, Rect.mem_set_unit.mpr fun a => match a with
    | 0 => ⟨Nat.le_refl _, Nat.lt_succ_self _⟩
    | 1 => ⟨Nat.le_refl _, Nat.lt_succ_self _⟩
    | 2 => ⟨Nat.zero_le _, (Nat.zero_add _).symm ▸ (x 2).isLt⟩
    | 3 => ⟨Nat.zero_le _, (Nat.zero_add _).symm ▸ (x 3).isLt⟩⟩

/-- Both halves of a buffer of lines, -/
def bothL (c : Dev nD) (b : Memref sig .tc .vmem S2x1x128x64 .bf16) : sProp 𝕄 :=
  iprop((∃ Y, owns (c : Thread nD τ) (lineSlot b 0) fullShare Y) ∗ ∃ Y, owns (c : Thread nD τ) (lineSlot b 1) fullShare Y)
/-- of a buffer of corners, -/
def bothC (c : Dev nD) (b : Memref sig .tc .vmem S2x1x64 .bf16) : sProp 𝕄 :=
  iprop((∃ Y, owns (c : Thread nD τ) (cornSlot b 0) fullShare Y) ∗ ∃ Y, owns (c : Thread nD τ) (cornSlot b 1) fullShare Y)
/-- and the four slots of the sums of step `i`. -/
def fourR (c : Dev nD) (b : Memref sig .tc .vmem S2x4x2x64 .f32) (i : Fin 2) : sProp 𝕄 :=
  iprop((∃ Y, owns (c : Thread nD τ) (redSlot b i 0) fullShare Y) ∗ (∃ Y, owns (c : Thread nD τ) (redSlot b i 1) fullShare Y)
    ∗ (∃ Y, owns (c : Thread nD τ) (redSlot b i 2) fullShare Y) ∗ ∃ Y, owns (c : Thread nD τ) (redSlot b i 3) fullShare Y)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem line_any (c : Dev nD) (b : Memref sig .tc .vmem S2x1x128x64 .bf16) :
    (iprop(∃ X, owns (c : Thread nD τ) b fullShare X) : sProp 𝕄) ⊣⊢ bothL c b :=
  ⟨(any_cut c b _ (fun _ _ => rfl) line_disj line_cover).trans (Entails.of_eq (bigSep_univ_two _)),
    (Entails.of_eq (bigSep_univ_two fun i => iprop(∃ Y, owns (c : Thread nD τ) (lineSlot b i) fullShare Y)).symm).trans
      (any_join c b _ (fun _ _ => rfl) line_disj line_cover)⟩
theorem corn_any (c : Dev nD) (b : Memref sig .tc .vmem S2x1x64 .bf16) :
    (iprop(∃ X, owns (c : Thread nD τ) b fullShare X) : sProp 𝕄) ⊣⊢ bothC c b :=
  ⟨(any_cut c b _ (fun _ _ => rfl) corn_disj corn_cover).trans (Entails.of_eq (bigSep_univ_two _)),
    (Entails.of_eq (bigSep_univ_two fun i => iprop(∃ Y, owns (c : Thread nD τ) (cornSlot b i) fullShare Y)).symm).trans
      (any_join c b _ (fun _ _ => rfl) corn_disj corn_cover)⟩
theorem red_four (c : Dev nD) (b : Memref sig .tc .vmem S2x4x2x64 .f32) :
    (bigSep Finset.univ fun t : Fin 2 × Fin 4 => iprop(∃ Y, owns (c : Thread nD τ) (redSlot b t.1 t.2) fullShare Y) : sProp 𝕄)
      = iprop(fourR c b 0 ∗ fourR c b 1) := by
  rw [bigSep_univ_prod, bigSep_univ_two, bigSep_four, bigSep_four]; rfl
theorem red_any (c : Dev nD) (b : Memref sig .tc .vmem S2x4x2x64 .f32) :
    (iprop(∃ X, owns (c : Thread nD τ) b fullShare X) : sProp 𝕄) ⊣⊢ iprop(fourR c b 0 ∗ fourR c b 1) :=
  ⟨(any_cut c b _ (fun _ _ => rfl) red_disj red_cover).trans (Entails.of_eq (red_four c b)),
    (Entails.of_eq (red_four c b).symm).trans (any_join c b _ (fun _ _ => rfl) red_disj red_cover)⟩

/-! ## The scratch buffers as slots -/

/-- The scratch buffers of device `c`, each holding something. -/
def scratch (c : Dev nD) : sProp 𝕄 :=
  iprop((∃ X, owns (c : Thread nD τ) (Memref.whole cc0_scratch0) fullShare X) ∗ (∃ X, owns (c : Thread nD τ) (Memref.whole cc0_scratch1) fullShare X)
    ∗ (∃ X, owns (c : Thread nD τ) (Memref.whole cc0_scratch2) fullShare X) ∗ (∃ X, owns (c : Thread nD τ) (Memref.whole cc0_scratch3) fullShare X)
    ∗ (∃ X, owns (c : Thread nD τ) (Memref.whole cc0_scratch4) fullShare X) ∗ (∃ X, owns (c : Thread nD τ) (Memref.whole cc0_scratch5) fullShare X)
    ∗ ∃ X, owns (c : Thread nD τ) (Memref.whole cc0_scratch6) fullShare X)

theorem scratch_eq (c : Dev nD) : (Pipeline.scopedRest (Ix := Unit) (Name := ℕ) (U := UU) (Lvl := ℕ) (Val := Elt F) spec0 c : sProp 𝕄) = scratch c := by
  rw [scopedRest0_eq]; unfold scratch; simp only [any_whole]

/-- The scratch buffers are the two steps' slots, sent from and landed in, -/
theorem scratch_cut (c : Dev nD) : (scratch c : sProp 𝕄) ⊢ iprop((srcs c 0 ∗ slots c 0) ∗ srcs c 1 ∗ slots c 1) := by
  unfold scratch srcs slots all6
  iintro ⟨h0, h1, h2, h3, h4, h5, h6⟩
  ihave h0 := (line_any c (Memref.whole cc0_scratch0)).1 $$ h0
  ihave h1 := (line_any c (Memref.whole cc0_scratch1)).1 $$ h1
  ihave h2 := (line_any c (Memref.whole cc0_scratch2)).1 $$ h2
  ihave h3 := (line_any c (Memref.whole cc0_scratch3)).1 $$ h3
  ihave h4 := (corn_any c (Memref.whole cc0_scratch4)).1 $$ h4
  ihave h5 := (corn_any c (Memref.whole cc0_scratch5)).1 $$ h5
  ihave h6 := (red_any c (Memref.whole cc0_scratch6)).1 $$ h6
  unfold bothL bothC fourR
  icases h0 with ⟨h00, h01⟩
  icases h1 with ⟨h10, h11⟩
  icases h2 with ⟨h20, h21⟩
  icases h3 with ⟨h30, h31⟩
  icases h4 with ⟨h40, h41⟩
  icases h5 with ⟨h50, h51⟩
  icases h6 with ⟨⟨hx0, hy0, hd0, ho0⟩, hx1, hy1, hd1, ho1⟩
  isplitl [h00 h10 h20 h30 h40 h50 hx0 hy0 hd0 ho0]
  · isplitl [h00 h20 h40 ho0]
    · isplitl [h00]; · iexact h00
      isplitl [h20]; · iexact h20
      isplitl [h40]; · iexact h40
      iexact ho0
    isplitl [h10]; · iexact h10
    isplitl [h30]; · iexact h30
    isplitl [h50]; · iexact h50
    isplitl [hx0]; · iexact hx0
    isplitl [hy0]; · iexact hy0
    iexact hd0
  isplitl [h01 h21 h41 ho1]
  · isplitl [h01]; · iexact h01
    isplitl [h21]; · iexact h21
    isplitl [h41]; · iexact h41
    iexact ho1
  isplitl [h11]; · iexact h11
  isplitl [h31]; · iexact h31
  isplitl [h51]; · iexact h51
  isplitl [hx1]; · iexact hx1
  isplitl [hy1]; · iexact hy1
  iexact hd1

/-- and back. -/
theorem scratch_join (c : Dev nD) : iprop((srcs c 0 ∗ slots c 0) ∗ srcs c 1 ∗ slots c 1) ⊢ (scratch c : sProp 𝕄) := by
  unfold scratch srcs slots all6
  iintro ⟨⟨⟨h00, h20, h40, ho0⟩, h10, h30, h50, hx0, hy0, hd0⟩, ⟨h01, h21, h41, ho1⟩, h11, h31, h51, hx1, hy1, hd1⟩
  isplitl [h00 h01]
  · iapply (line_any c (Memref.whole cc0_scratch0)).2; unfold bothL; isplitl [h00]; · iexact h00
    iexact h01
  isplitl [h10 h11]
  · iapply (line_any c (Memref.whole cc0_scratch1)).2; unfold bothL; isplitl [h10]; · iexact h10
    iexact h11
  isplitl [h20 h21]
  · iapply (line_any c (Memref.whole cc0_scratch2)).2; unfold bothL; isplitl [h20]; · iexact h20
    iexact h21
  isplitl [h30 h31]
  · iapply (line_any c (Memref.whole cc0_scratch3)).2; unfold bothL; isplitl [h30]; · iexact h30
    iexact h31
  isplitl [h40 h41]
  · iapply (corn_any c (Memref.whole cc0_scratch4)).2; unfold bothC; isplitl [h40]; · iexact h40
    iexact h41
  isplitl [h50 h51]
  · iapply (corn_any c (Memref.whole cc0_scratch5)).2; unfold bothC; isplitl [h50]; · iexact h50
    iexact h51
  iapply (red_any c (Memref.whole cc0_scratch6)).2
  unfold fourR
  isplitl [hx0 hy0 hd0 ho0]
  · isplitl [hx0]; · iexact hx0
    isplitl [hy0]; · iexact hy0
    isplitl [hd0]; · iexact hd0
    iexact ho0
  isplitl [hx1]; · iexact hx1
  isplitl [hy1]; · iexact hy1
  isplitl [hd1]; · iexact hd1
  iexact ho1

end Cert.KernelIdealProof

end
-- ==== Proof.Grid.lean ====
/-
# The two grid points

What a device holds before, between and after the two steps, and the body's run at each of them.
-/
module

public import proofs.«01_k».proof.Proof.Cut
public import proofs.«01_k».proof.Proof.Gen.KernelIdeal.Points
public import Idealize.ShloMosaic.Lib.Pipeline.FrameBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The records of the cells, and the levels. -/
def common : sProp 𝕄 := iprop((∃ K, records m K) ∗ levAts L lv)

/-- What waits aside while step `i` runs: the other step's cells and slots, not yet used or used already. -/
def aside (c : Dev nD) : Fin 2 → sProp 𝕄
  | 0 => iprop(all6 (chan c 1) ∗ srcs c 1)
  | 1 => iprop(semVal (barCell c) 0 ∗ all6 (shut c 0) ∗ srcs c 0 ∗ slots c 0)

/-- Before step `i`. -/
def before (c : Dev nD) (i : Fin 2) : sProp 𝕄 :=
  iprop(common m ∗ enter c i ∗ all6 (chan c i) ∗ srcs c i ∗ aside c i)
/-- After the last step: every counter at zero, every slot back. -/
def atEnd (c : Dev nD) : sProp 𝕄 :=
  iprop(semVal (barCell c) 0 ∗ (all6 (shut c 0) ∗ all6 (shut c 1)) ∗ (srcs c 0 ∗ slots c 0) ∗ srcs c 1 ∗ slots c 1)
/-- After step `i`. -/
def afterStep (c : Dev nD) : Fin 2 → sProp 𝕄
  | 0 => before m c 1
  | 1 => atEnd c

theorem afterStep_intro (c : Dev nD) (i : Fin 2) :
    iprop(common m ∗ (keep c i ∗ all6 (shut c i) ∗ srcs c i ∗ slots c i) ∗ aside c i) ⊢ (afterStep m c i : sProp 𝕄) := by
  match i with
  | 0 =>
    show iprop(common m ∗ ((semVal (barCell c) 0 ∗ lands c 1) ∗ all6 (shut c 0) ∗ srcs c 0 ∗ slots c 0) ∗ all6 (chan c 1) ∗ srcs c 1)
      ⊢ (iprop(common m ∗ lands c 1 ∗ all6 (chan c 1) ∗ srcs c 1 ∗ semVal (barCell c) 0 ∗ all6 (shut c 0) ∗ srcs c 0 ∗ slots c 0) : sProp 𝕄)
    iintro ⟨Hc, ⟨⟨Hb, Hl⟩, Hs, Hr, Ht⟩, Hch, Hsr⟩
    isplitl [Hc]; · iexact Hc
    isplitl [Hl]; · iexact Hl
    isplitl [Hch]; · iexact Hch
    isplitl [Hsr]; · iexact Hsr
    isplitl [Hb]; · iexact Hb
    isplitl [Hs]; · iexact Hs
    isplitl [Hr] <;> iassumption
  | 1 =>
    show iprop(common m ∗ (emp ∗ all6 (shut c 1) ∗ srcs c 1 ∗ slots c 1) ∗ semVal (barCell c) 0 ∗ all6 (shut c 0) ∗ srcs c 0 ∗ slots c 0)
      ⊢ (iprop(semVal (barCell c) 0 ∗ (all6 (shut c 0) ∗ all6 (shut c 1)) ∗ (srcs c 0 ∗ slots c 0) ∗ srcs c 1 ∗ slots c 1) : sProp 𝕄)
    iintro ⟨-, ⟨-, Hs1, Hr1, Ht1⟩, Hb, Hs0, Hr0, Ht0⟩
    isplitl [Hb]; · iexact Hb
    isplitl [Hs0 Hs1]; · isplitl [Hs0] <;> iassumption
    isplitl [Hr0 Ht0]; · isplitl [Hr0] <;> iassumption
    isplitl [Hr1] <;> iassumption

/-! ## The pipeline's data -/

/-- The step of a grid point. -/
def stepOf (t : Fin cfg0.N) : Fin 2 := ⟨t.val, lt_of_lt_of_eq t.isLt cfg0_N⟩

/-- The arrays, the blocks the body leaves in the staging buffers, and what a device holds and owes between the steps. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c (stepOf t)
    | ⟨1, _⟩ => kblk m c (stepOf t)
    | ⟨2, _⟩ => wblk m c (stepOf t)
    | ⟨3, _⟩ => outAt m c (stepOf t)
  Φ t := match t with
    | ⟨0, _⟩ => before m c 0
    | ⟨1, _⟩ => before m c 1
    | ⟨_ + 2, _⟩ => atEnd c
  q _ := fullShare
  owed t := match t with
    | ⟨0, _⟩ => O₀ c
    | ⟨1, _⟩ => O₁ c
    | ⟨_ + 2, _⟩ => 0

theorem phi_pre (c : Dev nD) (i : Fin 2) : (dats m ρ 0 c).Φ (pt i).castSucc = before m c i := by
  match i with | 0 => rfl | 1 => rfl
theorem phi_post (c : Dev nD) (i : Fin 2) : (dats m ρ 0 c).Φ (pt i).succ = afterStep m c i := by
  match i with | 0 => rfl | 1 => rfl
theorem owed_pre (c : Dev nD) (i : Fin 2) : (dats m ρ 0 c).owed (pt i).castSucc = owedBefore c i := by
  match i with | 0 => rfl | 1 => rfl
theorem owed_post (c : Dev nD) (i : Fin 2) : (dats m ρ 0 c).owed (pt i).succ = owedAfter c i := by
  match i with | 0 => rfl | 1 => rfl

/-- An input's staging buffer holds its block when the body starts. -/
theorem found_x (c : Dev nD) (i : Fin 2) (d) : (dats m ρ 0 c).before 0 (pt i) d = xblk m c i :=
  ((dats m ρ 0 c).before_in_eq_fetched 0 rfl (fun _ => rfl) (fun _ _ _ => rfl) (fun _ => rfl) (pt i) d).trans rfl
theorem found_k (c : Dev nD) (i : Fin 2) (d) : (dats m ρ 0 c).before 1 (pt i) d = kblk m c i :=
  ((dats m ρ 0 c).before_in_eq_fetched 1 rfl (fun _ => rfl) (fun _ _ _ => rfl) (fun _ => rfl) (pt i) d).trans rfl
theorem found_w (c : Dev nD) (i : Fin 2) (d) : (dats m ρ 0 c).before 2 (pt i) d = wblk m c i :=
  ((dats m ρ 0 c).before_in_eq_fetched 2 rfl (fun _ => rfl) (fun _ _ _ => rfl) (fun _ => rfl) (pt i) d).trans rfl

theorem coords_pt (i : Fin 2) : (grid0.coords (pt i) 0).val = i.val := by
  match i with | 0 => decide | 1 => decide

/-! ## The body's obligation -/

abbrev stg (c : Dev nD) (i : Fin 2) (w : Fin cfg0.W) (X : ((cfg0.win w).block).Idx → Elt F (cfg0.win w).elt) : sProp 𝕄 :=
  owns (c : Thread nD τ) ((cfg0.win w).stage (cfg0.slots (pt i) w)) fullShare X

def bodyPre (c : Dev nD) (i : Fin 2) : sProp 𝕄 :=
  iprop(before m c i ∗ (dats m ρ 0 c).owesAt () (pt i).castSucc
    ∗ (∃ d, stg c i 0 ((dats m ρ 0 c).before 0 (pt i) d)) ∗ (∃ d, stg c i 1 ((dats m ρ 0 c).before 1 (pt i) d))
    ∗ (∃ d, stg c i 2 ((dats m ρ 0 c).before 2 (pt i) d)) ∗ ∃ d, stg c i 3 ((dats m ρ 0 c).before 3 (pt i) d))

def bodyPost (c : Dev nD) (i : Fin 2) : sProp 𝕄 :=
  iprop(afterStep m c i ∗ (dats m ρ 0 c).owesAt () (pt i).succ
    ∗ stg c i 0 (xblk m c i) ∗ stg c i 1 (kblk m c i) ∗ stg c i 2 (wblk m c i) ∗ stg c i 3 (outAt m c i))

theorem body_at (c : Dev nD) (i : Fin 2) :
    bodyPre m ρ c i ⊢ wp frame (wpE (defs₀ (F := F)) 𝒱₀ c none) Set.univ (bodyAt0 (F := F) (pt i)) fun _ => bodyPost m ρ c i := by
  unfold bodyPre bodyPost Cert.KernelIdealProof.before common
  simp only [found_x, found_k, found_w]
  unfold Dat.owesAt Pipeline.owesWithin
  rw [owed_pre, owed_post]
  iintro ⟨⟨⟨⟨%K, #HR⟩, #Hlev⟩, Hent, Hch, Hsr, Has⟩, ⟨%W, %hW, HO⟩, ⟨%d0, H0⟩, ⟨%d1, H1⟩, ⟨%d2, H2⟩, ⟨%d3, H3⟩⟩
  iapply (sound_step m K c i (grid0.coords (pt i)) (coords_pt i) W)
  isplitl [Hent Hch Hsr HO H0 H1 H2 H3]
  · unfold stepPre
    isplitr; · iexact HR
    isplitr; · iexact Hlev
    isplitl [Hent]; · iexact Hent
    isplitl [Hch]; · iexact Hch
    isplitl [Hsr]; · iexact Hsr
    isplitl [HO]; · iexact HO
    isplitl [H0]; · iexact H0
    isplitl [H1]; · iexact H1
    isplitl [H2]; · iexact H2
    iexists _; iexact H3
  unfold stepPost
  iintro ⟨Hk, Hsh, Hsr, Hsl, ⟨%W', HO⟩, H0, H1, H2, H3⟩
  isplitl [Hk Hsh Hsr Hsl Has]
  · iapply (afterStep_intro m c i)
    unfold common
    isplitr
    · isplitl
      · iexists K; iexact HR
      iexact Hlev
    isplitl [Hk Hsh Hsr Hsl]
    · isplitl [Hk]; · iexact Hk
      isplitl [Hsh]; · iexact Hsh
      isplitl [Hsr] <;> iassumption
    iexact Has
  isplitl [HO]
  · iexists _; isplitr; swap
    · iexact HO
    ipureintro; exact fun _ _ => Or.inl trivial
  isplitl [H0]; · iexact H0
  isplitl [H1]; · iexact H1
  isplitl [H2]; · iexact H2
  iexact H3

/-- The library's obligation for the body, on core `c`. -/
theorem body_obligation (c : Dev nD) : BodyObligation (dats (F := F) m ρ 0 c) (defs₀ (F := F)) 𝒱₀ () Set.univ := fun t => by
  obtain ⟨i, rfl⟩ : ∃ i, t = pt i := ⟨stepOf t, rfl⟩
  rw [phi_pre, phi_post, bigSep_W0, bigSep_W0]
  exact body_at m ρ c i

end Cert.KernelIdealProof

end
-- ==== Proof.Launch.lean ====
/-
# The launch

The cells' records are made from the counters at zero, the tokens are dealt to the devices that pay with them, and each
device starts with the credit of what the others owe it. Then every run of the kernel ends, with every counter at zero
and every array at the contents the pipeline's data names.
-/
module

public import proofs.«01_k».proof.Proof.Grid
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- A step and a kind of block. -/
abbrev SK : Type := Fin 2 × Kd

/-- The kernel's own semaphores: "left" and "landed" of each step and kind. -/
abbrev osem (x : Bool × SK) : SemLoc sig := csem (some x)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro a b h
  have hr : role (csem a) = role (csem b) := congrArg role h
  match a, b with
  | none, none => rfl
  | none, some (false, i, k) => rw [csem, csem, role_bar, role_sS] at hr; exact absurd hr (by intro h; cases h)
  | none, some (true, i, k) => rw [csem, csem, role_bar, role_sR] at hr; exact absurd hr (by intro h; cases h)
  | some (false, i, k), none => rw [csem, csem, role_bar, role_sS] at hr; exact absurd hr (by intro h; cases h)
  | some (true, i, k), none => rw [csem, csem, role_bar, role_sR] at hr; exact absurd hr (by intro h; cases h)
  | some (false, i, k), some (true, i', k') => rw [csem, csem, role_sS, role_sR] at hr; exact absurd hr (by intro h; cases h)
  | some (true, i, k), some (false, i', k') => rw [csem, csem, role_sS, role_sR] at hr; exact absurd hr (by intro h; cases h)
  | some (false, i, k), some (false, i', k') => rw [csem, csem, role_sS, role_sS] at hr; cases hr; rfl
  | some (true, i, k), some (true, i', k') => rw [csem, csem, role_sR, role_sR] at hr; cases hr; rfl

theorem cell_dev {c c' : Dev nD} {s s' : SemLoc sig} (h : ((c : Thread nD τ), s) = ((c' : Thread nD τ), s')) : c = c' :=
  congrArg (fun g : GSem nD τ sig => g.1.1) h

theorem kcell_injective : Function.Injective (kcell : Dev nD × CK → GSem nD τ sig) := by
  rintro ⟨c, k⟩ ⟨c', k'⟩ h
  exact Prod.ext (cell_dev h) (csem_injective (congrArg Prod.snd h))
def allCells : Finset (GSem nD τ sig) := Finset.univ.map ⟨kcell, kcell_injective⟩

/-- A device's own cells' tokens as minted: one per peer on its barrier, one on each other cell. -/
abbrev TK : Type := Pr ⊕ (Bool × SK)
abbrev tokOf : Dev nD × TK → GSem nD τ sig × ℕ × Pr
  | (c, .inl p) => (barCell c, 0, p)
  | (c, .inr x) => (kcell (c, some x), 0, .x)
theorem tokOf_injective : Function.Injective tokOf := by
  have hb (x : Bool × SK) : csem none ≠ csem (some x) := fun h => by have := csem_injective h; cases this
  rintro ⟨c, p | x⟩ ⟨c', p' | x'⟩ h
  · have hc := cell_dev (congrArg Prod.fst h)
    have hp : p = p' := congrArg (fun y : GSem nD τ sig × ℕ × Pr => y.2.2) h
    rw [hc, hp]
  · exact absurd (congrArg (fun y : GSem nD τ sig × ℕ × Pr => y.1.2) h) (hb x')
  · exact absurd (congrArg (fun y : GSem nD τ sig × ℕ × Pr => y.1.2) h).symm (hb x)
  · have := kcell_injective (congrArg Prod.fst h)
    cases this; rfl
def allToks : Finset (GSem nD τ sig × ℕ × Pr) := Finset.univ.map ⟨tokOf, tokOf_injective⟩

/-- The launch element: the staging copies' and the exchange's. -/
def u₀ : UU :=
  (initOf (Pipeline.cells cfgs cellOf_inj) (Pipeline.launchToks cfgs cellOf_inj), initOf allCells allToks)

/-- A family over the cells of a device, the barrier first, then the pairs of "left" and "landed". -/
def ckEquiv : Unit ⊕ (Bool × SK) ≃ CK :=
  ⟨fun | .inl _ => none | .inr x => some x, fun | none => .inl () | some x => .inr x, fun | .inl _ => rfl | .inr _ => rfl, fun | none => rfl | some _ => rfl⟩
theorem bigSep_bool (Φ : Bool → sProp 𝕄) : bigSep Finset.univ Φ = iprop(Φ false ∗ Φ true) :=
  bigSep_univ_eq_bigSepL [false, true] (by decide) (by decide) Φ
theorem bigSep_pairs (Φ : Bool × SK → sProp 𝕄) :
    bigSep Finset.univ Φ = bigSep Finset.univ fun x : SK => iprop(Φ (false, x) ∗ Φ (true, x)) := by
  rw [bigSep_univ_prod, bigSep_bool, ← bigSep_sep']
theorem bigSep_ck (Φ : CK → sProp 𝕄) :
    bigSep Finset.univ Φ = iprop(Φ none ∗ bigSep Finset.univ fun x : SK => iprop(Φ (some (false, x)) ∗ Φ (some (true, x)))) := by
  rw [bigSep_univ_equiv ckEquiv, bigSep_univ_sum, bigSep_pairs, show (Finset.univ : Finset Unit) = {()} from rfl, bigSep_singleton]
  rfl
theorem bigSep_pr (Φ : Pr → sProp 𝕄) : bigSep Finset.univ Φ = iprop(Φ .x ∗ Φ .y ∗ Φ .d) :=
  bigSep_univ_eq_bigSepL [Pr.x, Pr.y, Pr.d] (by decide) (by decide) Φ
theorem all6_eq (f : Kd → sProp 𝕄) : all6 f = bigSep Finset.univ f :=
  (bigSep_univ_eq_bigSepL [Kd.hx, Kd.hy, Kd.hd, Kd.rx, Kd.ry, Kd.rd] (by decide) (by decide) f).symm
/-- Both steps' blocks. -/
theorem all12_eq (f : Fin 2 → Kd → sProp 𝕄) : iprop(all6 (f 0) ∗ all6 (f 1)) = bigSep Finset.univ fun x : SK => f x.1 x.2 := by
  rw [bigSep_univ_prod, bigSep_univ_two, all6_eq, all6_eq]

/-! ## Dealing -/

/-- The tokens of device `c`'s own cells. -/
def toks (c : Dev nD) : sProp 𝕄 :=
  iprop((bigSep Finset.univ fun p : Pr => dutyTok ER (barCell c) 0 p)
    ∗ bigSep Finset.univ fun x : SK => iprop(dutyTok ER (sCell x.1 x.2 c) 0 .x ∗ dutyTok ER (rCell x.1 x.2 c) 0 .x))
/-- The tokens device `c` pays with. -/
def payToks (c : Dev nD) : sProp 𝕄 :=
  iprop((bigSep Finset.univ fun p : Pr => dutyTok ER (barCell (pr p c)) 0 p)
    ∗ bigSep Finset.univ fun x : SK => iprop(dutyTok ER (sCell x.1 x.2 c) 0 .x ∗ dutyTok ER (rCell x.1 x.2 (peer x.2 c)) 0 .x))

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
/-- What stays with device `c`: where its cells stand, and the tokens it pays with. -/
def mine (c : Dev nD) : sProp 𝕄 :=
  iprop((bigSep Finset.univ fun k : CK => atPos ER (kcell (c, k)) 0 ∅ 0) ∗ payToks c)
/-- What the global step makes of it. -/
def G' (c : Dev nD) : sProp 𝕄 := iprop((∃ K, records m K) ∗ mine c)

theorem toks_eq (c : Dev nD) : (bigSep Finset.univ fun j : TK => dutyTok ER (tokOf (c, j)).1 (tokOf (c, j)).2.1 (tokOf (c, j)).2.2 : sProp 𝕄) = toks c := by
  rw [bigSep_univ_sum, bigSep_pairs]; rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun x : SK => iprop(semVal (sCell x.1 x.2 c) 0 ∗ semVal (rCell x.1 x.2 c) 0) := by
  unfold Pipeline.ownSems0; exact bigSep_pairs _

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_ck]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Going across, with the way it is gone, of all devices. -/
def across {A : Type} (way : A → Pr) : Dev nD × A ≃ Dev nD × A :=
  ⟨fun x => (pr (way x.2) x.1, x.2), fun x => (pr (way x.2) x.1, x.2), fun x => Prod.ext (pr_pr _ _) rfl, fun x => Prod.ext (pr_pr _ _) rfl⟩

theorem deal {A : Type} [Fintype A] (way : A → Pr) (Φ : Dev nD → A → sProp 𝕄) :
    (bigSep Finset.univ fun c : Dev nD => bigSep Finset.univ fun a : A => Φ c a)
      = bigSep Finset.univ fun c : Dev nD => bigSep Finset.univ fun a : A => Φ (pr (way a) c) a := by
  rw [← bigSep_univ_prod (fun x : Dev nD × A => Φ x.1 x.2), bigSep_univ_equiv (across way), bigSep_univ_prod]; rfl

/-- Each token goes to the device that pays with it. -/
theorem toks_around : (bigSep Finset.univ fun c : Dev nD => (toks c : sProp 𝕄)) ⊢ bigSep Finset.univ fun c : Dev nD => payToks c := by
  unfold toks payToks
  simp only [bigSep_sep']
  rw [deal (fun p : Pr => p) (fun c p => (dutyTok ER (barCell c) 0 p : sProp 𝕄)),
    deal (fun x : SK => x.2.to) (fun c x => (dutyTok ER (rCell x.1 x.2 c) 0 .x : sProp 𝕄))]

theorem mine_intro (K : Dev nD × CK → ℕ) (c : Dev nD) : iprop(records m K ∗ mine c) ⊢ (G' m c : sProp 𝕄) := by
  unfold G'
  iintro ⟨#HR, H⟩
  isplitr; · iexists K; iexact HR
  iexact H

theorem deal_records {Φ Ψ : Dev nD → sProp 𝕄} {R : sProp 𝕄} [BI.Persistent R]
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  simp only [bigSep_sep']
  rw [← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (deal_records (R := records m K) fun c => mine_intro m K c)
  isplitr
  · unfold records; isplitl; · iexact HI
    iexact HR
  · unfold mine; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem oweR_bar (d c : Dev nD) (i : Fin 2) (k : Kd) : oweR d i k (barCell c) () = 0 :=
  by rw [tallyAt_apply]; exact if_neg fun h => absurd (congrArg (fun g : GSem nD τ sig => g.2) h.1) (by intro h'; cases h')
theorem oweB_bar (d c : Dev nD) (p : Pr) : oweB d p (barCell c) () = if d = pr p c then 1 else 0 := by
  rw [tallyAt_apply]
  by_cases h : d = pr p c
  · subst h; rw [if_pos ⟨by rw [pr_pr], rfl⟩, if_pos rfl]
  · rw [if_neg (fun h' => h (by rw [cell_dev h'.1, pr_pr])), if_neg h]
theorem oweB_land (d c : Dev nD) (p : Pr) (i : Fin 2) (k : Kd) : oweB d p (rCell i k c) () = 0 :=
  by rw [tallyAt_apply]; exact if_neg fun h => absurd (congrArg (fun g : GSem nD τ sig => g.2) h.1) (by intro h'; cases h')
theorem oweR_land (d c : Dev nD) (i i' : Fin 2) (k k' : Kd) :
    oweR d i' k' (rCell i k c) () = if i' = i ∧ k' = k then (if d = peer k c then amt i k else 0) else 0 := by
  rw [tallyAt_apply]
  by_cases h : i' = i ∧ k' = k
  · obtain ⟨rfl, rfl⟩ := h
    rw [if_pos (⟨rfl, rfl⟩ : i' = i' ∧ k' = k')]
    by_cases h : d = peer k' c
    · subst h; rw [if_pos ⟨by rw [peer_peer], rfl⟩, if_pos rfl]
    · rw [if_neg (fun h' => h (by rw [cell_dev h'.1, peer_peer])), if_neg h]
  · rw [if_neg h, if_neg]
    rintro ⟨h', -⟩
    have hr : role (rCell i k c).2 = role (rCell i' k' (peer k' d)).2 := congrArg (fun g : GSem nD τ sig => role g.2) h'
    rw [show role (rCell i k c).2 = .rcv i k from role_sR i k, show role (rCell i' k' (peer k' d)).2 = .rcv i' k' from role_sR i' k'] at hr
    cases hr; exact h ⟨rfl, rfl⟩

theorem owed_bar (d c : Dev nD) :
    O₀ d (barCell c) () = (if d = pr .d c then 1 else 0) + (if d = pr .y c then 1 else 0) + (if d = pr .x c then 1 else 0) := by
  unfold O₀ O₀' O₁ owedAll owedHalo owedRed
  simp only [Pi.add_apply, Finsupp.add_apply, oweR_bar, oweB_bar, Pi.zero_apply, Finsupp.zero_apply, Nat.zero_add, Nat.add_zero]

theorem owed_land (d c : Dev nD) (i : Fin 2) (k : Kd) : O₀ d (rCell i k c) () = if d = peer k c then amt i k else 0 := by
  unfold O₀ O₀' O₁ owedAll owedHalo owedRed
  simp only [Pi.add_apply, Finsupp.add_apply, oweR_land, oweB_land, Pi.zero_apply, Finsupp.zero_apply, Nat.zero_add, Nat.add_zero]
  match i, k with
  | 0, .hx => simp | 0, .hy => simp | 0, .hd => simp | 0, .rx => simp | 0, .ry => simp | 0, .rd => simp
  | 1, .hx => simp | 1, .hy => simp | 1, .hd => simp | 1, .rx => simp | 1, .ry => simp | 1, .rd => simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr .d c) fun _ => 1, Finset.sum_ite_eq' Finset.univ (pr .y c) fun _ => 1, Finset.sum_ite_eq' Finset.univ (pr .x c) fun _ => 1,
    if_pos (Finset.mem_univ _), if_pos (Finset.mem_univ _), if_pos (Finset.mem_univ _)]

theorem launch_land (c : Dev nD) (i : Fin 2) (k : Kd) :
    tallyOn (rCell i k c) (launchCredit (Pipeline.owing O₀) 0 (rCell i k c)) = (tallyAt (rCell i k c) () (amt i k) : CellTallies nD τ sig Unit) := by
  unfold tallyAt; refine congrArg _ (Finsupp.ext fun u => ?_); cases u
  rw [Pipeline.launchCredit_owing, Finsupp.single_eq_same, Finset.sum_congr rfl fun d _ => owed_land d c i k,
    Finset.sum_ite_eq' Finset.univ (peer k c) fun _ => amt i k, if_pos (Finset.mem_univ _)]

/-- The "landed" semaphores. -/
def landSem : SK ↪ SemLoc sig := ⟨fun x => csem (some (true, x)), fun a b h => Prod.mk.inj (Option.some.inj (csem_injective h)) |>.2⟩

theorem creds (c : Dev nD) :
    (Pipeline.launchCred O₀ c : sProp 𝕄)
      ⊢ iprop(cred (tallyAt (barCell c) () 3) ∗ bigSep Finset.univ fun x : SK => cred (tallyAt (rCell x.1 x.2 c) () (amt x.1 x.2))) := by
  unfold Pipeline.launchCred
  rw [bigSep_univ_at _ (SemLoc.reg barS), launch_bar]
  refine sep_mono_right ((bigSep_subset (t := Finset.univ.map landSem) ?_).trans ?_)
  · intro s hs
    obtain ⟨x, -, rfl⟩ := Finset.mem_map.mp hs
    exact Finset.mem_erase.mpr ⟨fun h => Option.some_ne_none _ (csem_injective (show csem (some (true, x)) = csem none from h)), Finset.mem_univ _⟩
  · rw [bigSep_map]
    exact bigSep_mono fun x _ => Entails.of_eq (congrArg cred (launch_land c x.1 x.2))

/-! ## The theorem's side conditions -/

/-- What a device starts with, its scratch buffers apart. -/
def start (c : Dev nD) : sProp 𝕄 :=
  iprop(common m ∗ (atPos ER (barCell c) 0 ∅ 0 ∗ (dutyTok ER (barCell (pr .x c)) 0 .x ∗ dutyTok ER (barCell (pr .y c)) 0 .y
    ∗ dutyTok ER (barCell (pr .d c)) 0 .d) ∗ cred (tallyAt (barCell c) () 3)) ∗ all6 (chan c 0) ∗ all6 (chan c 1))

/-- The cells of all blocks, each with its tokens and its credit. -/
theorem chans_intro (c : Dev nD) :
    iprop((bigSep Finset.univ fun x : SK => iprop(atPos ER (sCell x.1 x.2 c) 0 ∅ 0 ∗ atPos ER (rCell x.1 x.2 c) 0 ∅ 0))
        ∗ (bigSep Finset.univ fun x : SK => iprop(dutyTok ER (sCell x.1 x.2 c) 0 .x ∗ dutyTok ER (rCell x.1 x.2 (peer x.2 c)) 0 .x))
        ∗ bigSep Finset.univ fun x : SK => cred (tallyAt (rCell x.1 x.2 c) () (amt x.1 x.2)))
      ⊢ (iprop(all6 (chan c 0) ∗ all6 (chan c 1)) : sProp 𝕄) := by
  rw [all12_eq (chan c), ← bigSep_sep', ← bigSep_sep']
  refine bigSep_mono fun x _ => ?_
  unfold chan
  show iprop((atPos ER (sCell x.1 x.2 c) 0 ∅ 0 ∗ atPos ER (rCell x.1 x.2 c) 0 ∅ 0)
      ∗ (dutyTok ER (sCell x.1 x.2 c) 0 .x ∗ dutyTok ER (rCell x.1 x.2 (peer x.2 c)) 0 .x) ∗ cred (tallyAt (rCell x.1 x.2 c) () (amt x.1 x.2)))
    ⊢ (iprop(atPos ER (sCell x.1 x.2 c) 0 ∅ 0 ∗ atPos ER (rCell x.1 x.2 c) 0 ∅ 0
      ∗ dutyTok ER (sCell x.1 x.2 c) 0 .x ∗ dutyTok ER (rCell x.1 x.2 (peer x.2 c)) 0 .x ∗ cred (tallyAt (rCell x.1 x.2 c) () (amt x.1 x.2))) : sProp 𝕄)
  iintro ⟨⟨H1, H2⟩, ⟨H3, H4⟩, H5⟩
  isplitl [H1]; · iexact H1
  isplitl [H2]; · iexact H2
  isplitl [H3]; · iexact H3
  isplitl [H4] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' mine payToks
  rw [bigSep_ck, bigSep_pr]
  iintro ⟨-, Hlev, Hcr, -, HR, ⟨HaB, Hat⟩, HtB, Htk⟩
  ihave Hc := (creds (F := F) c) $$ Hcr
  icases Hc with ⟨H3, HN⟩
  imodintro
  isplitl
  · unfold start common
    isplitl [HR Hlev]; · isplitl [HR] <;> iassumption
    isplitl [HaB HtB H3]
    · isplitl [HaB]; · iexact HaB
      isplitl [HtB] <;> iassumption
    iapply (chans_intro c)
    isplitl [Hat]; · iexact Hat
    isplitl [Htk] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c 0 from rfl, show (Pipeline.scopedRest cfg0.spec c : sProp 𝕄) = scratch c from scratch_eq c]
  unfold start
  show _ ⊢ (iprop(common m ∗ barIn c ∗ all6 (chan c 0) ∗ srcs c 0 ∗ all6 (chan c 1) ∗ srcs c 1) : sProp 𝕄)
  unfold barIn
  iintro ⟨⟨Hc, ⟨HaB, ⟨Hx, Hy, Hd⟩, H3⟩, Hch0, Hch1⟩, -, Hscr⟩
  ihave Hs := (scratch_cut c) $$ Hscr
  icases Hs with ⟨⟨Hr0, Hl0⟩, Hr1, Hl1⟩
  isplitl [Hc]; · iexact Hc
  isplitl [HaB Hx Hy Hd H3 Hl0 Hl1]
  · isplitl [HaB]; · iexact HaB
    isplitl [Hx]; · iexact Hx
    isplitl [Hy]; · iexact Hy
    isplitl [Hd]; · iexact Hd
    isplitl [H3]; · iexact H3
    isplitl [Hl0] <;> iassumption
  isplitl [Hch0]; · iexact Hch0
  isplitl [Hr0]; · iexact Hr0
  isplitl [Hch1] <;> iassumption

theorem shut_all (c : Dev nD) : (iprop(all6 (shut c 0) ∗ all6 (shut c 1)) : sProp 𝕄)
    = Pipeline.ownSems0 (Ix := Unit) (Name := ℕ) (U := UU) (Lvl := ℕ) (Val := Elt F) (τ := τ) osem c := by
  rw [all12_eq (shut c), ownSems0_eq]; rfl

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = atEnd c from rfl, show (Pipeline.scopedRest cfg0.spec c : sProp 𝕄) = scratch c from scratch_eq c, unscopedSems0_eq,
    ← shut_all]
  unfold atEnd
  iintro ⟨Hb, Hs, Hr⟩
  isplitl [Hb]; · iexact Hb
  isplitl [Hs]; · iexact Hs
  iapply (scratch_join c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _ | _, ht⟩
      · exact Or.inl rfl
      · exact Or.inr (Or.inl rfl)
      · exact Or.inr (Or.inr rfl))

/-! ## The run -/

/-- What window `w`'s array on device `c` holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, over any floats: every fair run of the kernel on the four devices ends, with
    each array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

/-- The run, with the values dropped: the arguments end as they began and every counter ends at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c => ⟨(h.1 c 0).trans (finalA_in m ρ c 0 rfl), (h.1 c 1).trans (finalA_in m ρ c 1 rfl),
    (h.1 c 2).trans (finalA_in m ρ c 2 rfl)⟩, h.2⟩) (run_main m ρ)

end Cert.KernelIdealProof

end
-- ==== Proof.Planes.lean ====
/-
# One device's block and its border, in coordinates of the whole image

A plane is one image of the batch as a function of row, column and channel, over the extended reals. Device `c` holds the
quarter of it that starts at row `128 (c / 2)` and column `128 (c mod 2)`. This module reads what the kernel takes for the
rows, columns and corners around that quarter: each is the plane at the neighbouring coordinate, where a coordinate that
leaves the image is moved to its edge.
-/
module

public import proofs.«01_k».proof.Proof.Body
public import Idealize.ShloMosaic.Lib.Pointwise

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over an image -/

theorem reduce_image (h : (⟨4, ![1, 128, 128, 64]⟩ : Shape).Reduces [0, 1, 2] ⟨1, ![64]⟩) (v : (⟨4, ![1, 128, 128, 64]⟩ : Shape).Idx → EReal)
    (q : Fin 64) : Ideal.reduceAdd h v (ix1 q) = ∑ r : Fin 128, ∑ s : Fin 128, v (ix4 0 r s q) := by
  have hd : ∀ (a : Fin 1) (b c : Fin 128) (d : Fin 64), h.drop (ix4 a b c d) = ix1 q ↔ d = q := fun a b c d => by
    have hv : (h.drop (ix4 a b c d) 0 : Nat) = d.val := h.drop_apply_val_of_eq (ix4 a b c d) 0 3
    constructor
    · intro e; rw [e] at hv; exact Fin.ext hv.symm
    · rintro rfl; exact (eq_ix1 _).trans (congrArg ix1 (Fin.ext hv))
  unfold Ideal.reduceAdd
  rw [Finset.sum_filter, sum_idx4]
  simp only [hd, Finset.sum_ite_eq', Finset.mem_univ, if_true, Fin.sum_univ_one]

theorem reduce_taps (h : (⟨3, ![3, 3, 64]⟩ : Shape).Reduces [0, 1] ⟨1, ![64]⟩) (v : (⟨3, ![3, 3, 64]⟩ : Shape).Idx → EReal)
    (q : Fin 64) : Ideal.reduceAdd h v (ix1 q) = ∑ r : Fin 3, ∑ s : Fin 3, v (ix3 r s q) := by
  have hd : ∀ (b c : Fin 3) (d : Fin 64), h.drop (ix3 b c d) = ix1 q ↔ d = q := fun b c d => by
    have hv : (h.drop (ix3 b c d) 0 : Nat) = d.val := h.drop_apply_val_of_eq (ix3 b c d) 0 2
    constructor
    · intro e; rw [e] at hv; exact Fin.ext hv.symm
    · rintro rfl; exact (eq_ix1 _).trans (congrArg ix1 (Fin.ext hv))
  unfold Ideal.reduceAdd
  rw [Finset.sum_filter, sum_idx3]
  simp only [hd, Finset.sum_ite_eq', Finset.mem_univ, if_true]

/-! ## A device's place -/

theorem cmp_row0 : ∀ c : Dev nD, Scalar.cmpi .eq (rowW c) 0#32 = if c.val / 2 = 0 then 1#1 else 0#1 := by decide
theorem cmp_row1 : ∀ c : Dev nD, Scalar.cmpi .eq (rowW c) 1#32 = if c.val / 2 = 0 then 0#1 else 1#1 := by decide
theorem cmp_col0 : ∀ c : Dev nD, Scalar.cmpi .eq (colW c) 0#32 = if c.val % 2 = 0 then 1#1 else 0#1 := by decide
theorem cmp_col1 : ∀ c : Dev nD, Scalar.cmpi .eq (colW c) 1#32 = if c.val % 2 = 0 then 0#1 else 1#1 := by decide

theorem select_ite (p : Prop) [Decidable p] {α : Type} (a b : α) : Scalar.select (if p then 1#1 else 0#1) a b = if p then a else b := by
  split <;> rfl
theorem select_ite' (p : Prop) [Decidable p] {α : Type} (a b : α) : Scalar.select (if p then 0#1 else 1#1) a b = if p then b else a := by
  split <;> rfl

theorem row_cases (c : Dev nD) : c.val / 2 = 0 ∨ c.val / 2 = 1 := by have := c.isLt; have : nD = 4 := rfl; omega
theorem col_cases (c : Dev nD) : c.val % 2 = 0 ∨ c.val % 2 = 1 := by omega

theorem px_row : ∀ c : Dev nD, (px c).val / 2 = 1 - c.val / 2 := by decide
theorem px_col : ∀ c : Dev nD, (px c).val % 2 = c.val % 2 := by decide
theorem py_row : ∀ c : Dev nD, (py c).val / 2 = c.val / 2 := by decide
theorem py_col : ∀ c : Dev nD, (py c).val % 2 = 1 - c.val % 2 := by decide
theorem pd_row : ∀ c : Dev nD, (pd c).val / 2 = 1 - c.val / 2 := by decide
theorem pd_col : ∀ c : Dev nD, (pd c).val % 2 = 1 - c.val % 2 := by decide

/-! ## The plane and its quarters -/

abbrev Plane : Type := ℕ → ℕ → Fin 64 → EReal

/-- Device `c`'s quarter of a plane. -/
def quarter (X : Plane) (c : Dev nD) : Vec Ideal S1x128x128x64 .bf16 :=
  fun y => X (128 * (c.val / 2) + (y 1).val) (128 * (c.val % 2) + (y 2).val) (y 3)

theorem quarter_at (X : Plane) (c : Dev nD) (a : Fin 1) (r s : Fin 128) (q : Fin 64) :
    quarter X c (ix4 a r s q) = X (128 * (c.val / 2) + r.val) (128 * (c.val % 2) + s.val) q := rfl

/-- A plane goes on past its last row and its last column with their values. -/
structure Edged (X : Plane) : Prop where
  row : ∀ s q, X 256 s q = X 255 s q
  col : ∀ r q, X r 256 q = X r 255 q

variable (X : Plane) (c : Dev nD)

/-- What the device across `x` sent, -/
abbrev inX := outOf (F := Ideal) (px c) (quarter X (px c)) .hx
/-- the one across `y`, -/
abbrev inY := outOf (F := Ideal) (py c) (quarter X (py c)) .hy
/-- the one across both. -/
abbrev inD := outOf (F := Ideal) (pd c) (quarter X (pd c)) .hd

theorem inX_at (s : Fin 128) (q : Fin 64) :
    inX X c (ix4 0 0 s q) = if c.val / 2 = 0 then X 128 (128 * (c.val % 2) + s) q else X 127 (128 * (c.val % 2) + s) q := by
  show k0_pay5 (px c) (quarter X (px c)) (ix4 0 0 s q) = _
  pointwise [k0_pay5, k0_pay3, k0_pay2]
  rw [cmp_row0, select_ite, quarter_at, quarter_at, px_row, px_col]
  rcases row_cases c with h | h <;> simp [h]

theorem inY_at (s : Fin 128) (q : Fin 64) :
    inY X c (ix4 0 0 s q) = if c.val % 2 = 0 then X (128 * (c.val / 2) + s) 128 q else X (128 * (c.val / 2) + s) 127 q := by
  show k0_pay6 (k0_pay4 (py c) (quarter X (py c))) (ix4 0 0 s q) = _
  pointwise [k0_pay6, k0_pay4, k0_pay2]
  rw [cmp_col0, select_ite, quarter_at, quarter_at, py_row, py_col]
  rcases col_cases c with h | h <;> simp [h]

theorem inD_at (q : Fin 64) :
    inD X c (ix3 0 0 q) = X (if c.val / 2 = 0 then 128 else 127) (if c.val % 2 = 0 then 128 else 127) q := by
  show k0_pay7 (colW (pd c)) (k0_pay3 (pd c) (quarter X (pd c))) (ix3 0 0 q) = _
  pointwise [k0_pay7, k0_pay3, k0_pay2]
  rw [cmp_row0, cmp_col0]
  simp only [select_ite, quarter_at, pd_row, pd_col]
  rcases row_cases c with h | h <;> rcases col_cases c with h' | h' <;> simp [h, h']

/-! ## The border -/

/-- The row above, -/
abbrev above := k0_pay10 (F := Ideal) (rowW c) (k0_pay2 (quarter X c)) (inX X c)
/-- the row below, -/
abbrev below := k0_pay11 (F := Ideal) (rowW c) (k0_pay2 (quarter X c)) (inX X c)
/-- the column to the left, -/
abbrev leftOf := k0_pay12 (F := Ideal) (colW c) (k0_pay2 (quarter X c)) (inY X c)
/-- the column to the right. -/
abbrev rightOf := k0_pay13 (F := Ideal) (colW c) (k0_pay2 (quarter X c)) (inY X c)

theorem above_at (s : Fin 128) (q : Fin 64) : above X c (ix3 0 s q) = X (128 * (c.val / 2) - 1) (128 * (c.val % 2) + s) q := by
  pointwise [above, k0_pay10, k0_pay2]
  rw [cmp_row0, select_ite, inX_at, quarter_at]
  rcases row_cases c with h | h <;> simp [h]

variable {X} (hX : Edged X)
include hX

theorem below_at (s : Fin 128) (q : Fin 64) : below X c (ix3 0 s q) = X (128 * (c.val / 2) + 128) (128 * (c.val % 2) + s) q := by
  pointwise [below, k0_pay11, k0_pay2]
  rw [cmp_row0, select_ite, inX_at, quarter_at]
  rcases row_cases c with h | h <;> simp [h, hX.row]

omit hX in
theorem leftOf_at (s : Fin 128) (q : Fin 64) : leftOf X c (ix3 0 s q) = X (128 * (c.val / 2) + s) (128 * (c.val % 2) - 1) q := by
  pointwise [leftOf, k0_pay12, k0_pay2]
  rw [cmp_col0, select_ite, inY_at, quarter_at]
  rcases col_cases c with h | h <;> simp [h]

theorem rightOf_at (s : Fin 128) (q : Fin 64) : rightOf X c (ix3 0 s q) = X (128 * (c.val / 2) + s) (128 * (c.val % 2) + 128) q := by
  pointwise [rightOf, k0_pay13, k0_pay2]
  rw [cmp_col0, select_ite, inY_at, quarter_at]
  rcases col_cases c with h | h <;> simp [h, hX.col]

/-- The corner above to the left, -/
theorem corner_al (q : Fin 64) : k0_pay14 (rowW c) (colW c) (above X c) (leftOf X c) (inD X c) (ix2 0 q)
    = X (128 * (c.val / 2) - 1) (128 * (c.val % 2) - 1) q := by
  pointwise [k0_pay14]
  rw [cmp_row0, cmp_col0]
  simp only [select_ite]
  rcases row_cases c with h | h <;> rcases col_cases c with h' | h' <;> simp [h, h'] <;>
    (first | rw [above_at] | rw [leftOf_at c] | rw [inD_at]) <;> simp [h, h']

/-- above to the right, -/
theorem corner_ar (q : Fin 64) : k0_pay15 (rowW c) (colW c) (above X c) (rightOf X c) (inD X c) (ix2 0 q)
    = X (128 * (c.val / 2) - 1) (128 * (c.val % 2) + 128) q := by
  pointwise [k0_pay15]
  rw [cmp_row0, cmp_col1]
  simp only [select_ite, select_ite']
  rcases row_cases c with h | h <;> rcases col_cases c with h' | h' <;> simp [h, h'] <;>
    (first | rw [above_at] | rw [rightOf_at c hX] | rw [inD_at]) <;> simp [h, h', hX.col]

/-- below to the left, -/
theorem corner_bl (q : Fin 64) : k0_pay16 (rowW c) (colW c) (below X c) (leftOf X c) (inD X c) (ix2 0 q)
    = X (128 * (c.val / 2) + 128) (128 * (c.val % 2) - 1) q := by
  pointwise [k0_pay16]
  rw [cmp_row1, cmp_col0]
  simp only [select_ite, select_ite']
  rcases row_cases c with h | h <;> rcases col_cases c with h' | h' <;> simp [h, h'] <;>
    (first | rw [below_at c hX] | rw [leftOf_at c] | rw [inD_at]) <;> simp [h, h', hX.row]

/-- below to the right. -/
theorem corner_br (q : Fin 64) : k0_pay17 (rowW c) (colW c) (below X c) (rightOf X c) (inD X c) (ix2 0 q)
    = X (128 * (c.val / 2) + 128) (128 * (c.val % 2) + 128) q := by
  pointwise [k0_pay17]
  rw [cmp_row1, cmp_col1]
  simp only [select_ite, select_ite']
  rcases row_cases c with h | h <;> rcases col_cases c with h' | h' <;> simp [h, h'] <;>
    (first | rw [below_at c hX] | rw [rightOf_at c hX] | rw [inD_at]) <;> simp [h, h', hX.row, hX.col]

end Cert.KernelIdealProof

end
-- ==== Proof.Taps.lean ====
/-
# The nine taps on one device's block

The kernel adds the three rows of each column of taps over the block with the row above and the row below, and puts the
border columns in at the block's two sides. What it gets is the sum of nine products of the plane with the taps.
-/
module

public import proofs.«01_k».proof.Proof.Planes

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {X : Plane} (c : Dev nD) (hX : Edged X)

/-- One column of taps at a place of the plane. -/
def tapCol (X : Plane) (K : Fin 3 → Fin 3 → Fin 64 → EReal) (j : Fin 3) (r s : ℕ) (q : Fin 64) : EReal :=
  X (r - 1) s q * K 0 j q + X r s q * K 1 j q + X (r + 1) s q * K 2 j q

/-- The nine taps at a place of the plane: the middle column, the left one, the right one. -/
def taps (X : Plane) (K : Fin 3 → Fin 3 → Fin 64 → EReal) (r s : ℕ) (q : Fin 64) : EReal :=
  tapCol X K 1 r s q + tapCol X K 0 r (s - 1) q + tapCol X K 2 r (s + 1) q

/-- A block of taps as a function of its three places. -/
abbrev tapsOf (k : FVec Ideal S3x3x64 .bf16) : Fin 3 → Fin 3 → Fin 64 → EReal := fun i j q => k (ix3 i j q)

/-- The block between the row above and the row below, -/
abbrev tall (X : Plane) (c : Dev nD) := k0_pay22 (k0_pay2 (quarter X c)) (above X c) (below X c)
/-- and the column to the left, between its corners. -/
abbrev tallLeft (X : Plane) (c : Dev nD) := k0_pay28 (leftOf X c) (k0_pay14 (rowW c) (colW c) (above X c) (leftOf X c) (inD X c))
  (k0_pay16 (rowW c) (colW c) (below X c) (leftOf X c) (inD X c))

include hX

theorem tall_at (p : Fin 130) (s : Fin 128) (q : Fin 64) :
    tall X c (ix4 0 p s q) = X (128 * (c.val / 2) + p - 1) (128 * (c.val % 2) + s) q := by
  pointwise [tall, k0_pay22, k0_pay2]
  have hp := p.isLt
  by_cases h1 : p.val < 1
  · rw [dif_pos h1, above_at]; congr 1; omega
  rw [dif_neg h1]
  by_cases h2 : p.val - 1 < 128
  · rw [dif_pos h2, quarter_at]; congr 1; simp only; omega
  · rw [dif_neg h2, below_at c hX]; congr 1; omega

theorem tallLeft_at (p : Fin 130) (q : Fin 64) :
    tallLeft X c (ix3 0 p q) = X (128 * (c.val / 2) + p - 1) (128 * (c.val % 2) - 1) q := by
  pointwise [tallLeft, k0_pay28]
  have hp := p.isLt
  by_cases h1 : p.val < 1
  · rw [dif_pos h1, corner_al c hX]; congr 1; omega
  rw [dif_neg h1]
  by_cases h2 : p.val - 1 < 128
  · rw [dif_pos h2, leftOf_at c]; congr 1; simp only; omega
  · rw [dif_neg h2, corner_bl c hX]; congr 1; omega

omit hX in
/-- Three places below each other, as one column of taps. -/
theorem tapCol_eq (K : Fin 3 → Fin 3 → Fin 64 → EReal) (j : Fin 3) {r s : ℕ} {q : Fin 64} {x y z : EReal}
    (hx : x = X (r - 1) s q) (hy : y = X r s q) (hz : z = X (r + 1) s q) :
    x * K 0 j q + y * K 1 j q + z * K 2 j q = tapCol X K j r s q := by rw [hx, hy, hz]; rfl

/-- A place of the block between its two rows, by its row. -/
theorem tall_at' {p n : ℕ} (hp : p < 130) (hn : n = 128 * (c.val / 2) + p - 1) (s : Fin 128) (q : Fin 64) :
    tall X c (ix4 0 ⟨p, hp⟩ s q) = X n (128 * (c.val % 2) + s) q := by rw [tall_at c hX, hn]
theorem tallLeft_at' {p n : ℕ} (hp : p < 130) (hn : n = 128 * (c.val / 2) + p - 1) (q : Fin 64) :
    tallLeft X c (ix3 0 ⟨p, hp⟩ q) = X n (128 * (c.val % 2) - 1) q := by rw [tallLeft_at c hX, hn]
/-- The column to the right, between its corners. -/
theorem tallRight_at {p n : ℕ} (hp : p < 130) (hn : n = 128 * (c.val / 2) + p - 1) (q : Fin 64) :
    (if h : p < 1 then k0_pay15 (rowW c) (colW c) (above X c) (rightOf X c) (inD X c) (ix2 0 q)
      else if h : p - 1 < 128 then rightOf X c (ix3 0 ⟨p - 1, h⟩ q)
      else k0_pay17 (rowW c) (colW c) (below X c) (rightOf X c) (inD X c) (ix2 0 q)) = X n (128 * (c.val % 2) + 128) q := by
  subst hn
  by_cases h1 : p < 1
  · rw [dif_pos h1, corner_ar c hX]; congr 1; omega
  rw [dif_neg h1]
  by_cases h2 : p - 1 < 128
  · rw [dif_pos h2, rightOf_at c hX]; congr 1; simp only; omega
  · rw [dif_neg h2, corner_br c hX]; congr 1; omega

theorem column_left (k : FVec Ideal S3x3x64 .bf16) (k0 : FVec Ideal S1x1x1x64 .bf16) (h0 : ∀ q, k0 (ix4 0 0 0 q) = k (ix3 0 0 q))
    (r s : Fin 128) (q : Fin 64) :
    k0_pay25 k (tall X c) (k0_pay23 (k0_pay2 (quarter X c)) (above X c) (below X c)) k0 (ix4 0 r s q)
      = tapCol X (tapsOf k) 0 (128 * (c.val / 2) + r) (128 * (c.val % 2) + s) q := by
  pointwise [k0_pay25, k0_pay23]
  rw [h0]
  exact tapCol_eq (tapsOf k) 0 (tall_at' c hX _ rfl s q) (tall_at' c hX _ (by omega) s q) (tall_at' c hX _ (by omega) s q)

theorem column_middle (k : FVec Ideal S3x3x64 .bf16) (r s : Fin 128) (q : Fin 64) :
    k0_pay26 k (tall X c) (ix4 0 r s q)
      = tapCol X (tapsOf k) 1 (128 * (c.val / 2) + r) (128 * (c.val % 2) + s) q := by
  pointwise [k0_pay26]
  exact tapCol_eq (tapsOf k) 1 (tall_at' c hX _ rfl s q) (tall_at' c hX _ (by omega) s q) (tall_at' c hX _ (by omega) s q)

theorem column_right (k : FVec Ideal S3x3x64 .bf16) (r s : Fin 128) (q : Fin 64) :
    k0_pay27 k (tall X c) (ix4 0 r s q)
      = tapCol X (tapsOf k) 2 (128 * (c.val / 2) + r) (128 * (c.val % 2) + s) q := by
  pointwise [k0_pay27]
  exact tapCol_eq (tapsOf k) 2 (tall_at' c hX _ rfl s q) (tall_at' c hX _ (by omega) s q) (tall_at' c hX _ (by omega) s q)

theorem taps_at (k : FVec Ideal S3x3x64 .bf16) (k0 : FVec Ideal S1x1x1x64 .bf16) (h0 : ∀ q, k0 (ix4 0 0 0 q) = k (ix3 0 0 q))
    (r s : Fin 128) (q : Fin 64) :
    k0_pay30 (rightOf X c) (k0_pay17 (rowW c) (colW c) (below X c) (rightOf X c) (inD X c)) k
      (k0_pay25 k (tall X c) (k0_pay23 (k0_pay2 (quarter X c)) (above X c) (below X c)) k0)
      (k0_pay26 k (tall X c)) (k0_pay27 k (tall X c)) (tallLeft X c)
      (k0_pay29 (k0_pay15 (rowW c) (colW c) (above X c) (rightOf X c) (inD X c))) (ix4 0 r s q)
      = taps X (tapsOf k) (128 * (c.val / 2) + r) (128 * (c.val % 2) + s) q := by
  pointwise [k0_pay30, k0_pay29]
  unfold taps
  refine congrArg₂ (· + ·) (congrArg₂ (· + ·) (column_middle c hX k r s q) ?_) ?_
  · by_cases h : s.val < 1
    · rw [dif_pos h]
      have hs : 128 * (c.val % 2) + s.val - 1 = 128 * (c.val % 2) - 1 := by omega
      rw [hs]
      exact tapCol_eq (tapsOf k) 0 (tallLeft_at' c hX _ rfl q) (tallLeft_at' c hX _ (by omega) q) (tallLeft_at' c hX _ (by omega) q)
    · rw [dif_neg h, column_left c hX k k0 h0]
      congr 1; simp only; omega
  · by_cases h : s.val < 127
    · rw [dif_pos h, column_right c hX k]
      congr 1; simp only; omega
    · rw [dif_neg h]
      have hs : 128 * (c.val % 2) + s.val + 1 = 128 * (c.val % 2) + 128 := by omega
      rw [hs]
      exact tapCol_eq (tapsOf k) 2 (tallRight_at c hX (by omega) rfl q) (rightOf_at c hX r q) (tallRight_at c hX (by omega) (by omega) q)

end Cert.KernelIdealProof

end
-- ==== Proof.Quarter.lean ====
/-
# What a device's output block holds

The four devices' channel sums add up to the sums over the whole image. With them, and with the nine taps, a device's
output block is a function of the plane, of the taps and of the matrix, read at the device's quarter.
-/
module

public import proofs.«01_k».proof.Proof.Taps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's function of a plane -/

/-- A plane's sum over the image, -/
def total (X : Plane) (q : Fin 64) : EReal := ∑ r : Fin 256, ∑ s : Fin 256, X r.val s.val q
/-- its mean, -/
def meanK (X : Plane) (q : Fin 64) : EReal := Ideal.div (total X q) (Ideal.ofBits .f32 1199570944#32)
/-- the reciprocal of its deviation. -/
def invK (X : Plane) (q : Fin 64) : EReal :=
  Ideal.rsqrt (Ideal.div (total (fun r s q => X r s q * X r s q) q) (Ideal.ofBits .f32 1199570944#32) - meanK X q * meanK X q
    + Ideal.ofBits .f32 925353388#32)

/-- What goes through the activation: the scaled taps on the plane, less the mean's share. -/
def preK (X : Plane) (K : Fin 3 → Fin 3 → Fin 64 → EReal) (r s : ℕ) (q : Fin 64) : EReal :=
  taps X (fun i j q => K i j q * invK X q) r s q - meanK X q * (∑ i : Fin 3, ∑ j : Fin 3, K i j q) * invK X q

/-- The activation. -/
def act (z : EReal) : EReal := z * Ideal.div 1 (1 + Ideal.exp (0 - z))

/-- The whole: the plane plus the activated channels through the matrix. -/
def outK (X : Plane) (K : Fin 3 → Fin 3 → Fin 64 → EReal) (W : Fin 64 → Fin 64 → EReal) (r s : ℕ) (n : Fin 64) : EReal :=
  X r s n + ∑ q : Fin 64, act (preK X K r s q) * W q n

/-! ## The channel sums -/

variable (X : Plane) (c : Dev nD)

theorem redOut_zero (x : Vec Ideal S1x128x128x64 .bf16) (q : Fin 64) :
    redOut (F := Ideal) x (ix4 0 0 0 q) = ∑ r : Fin 128, ∑ s : Fin 128, x (ix4 0 r s q) := by
  show k0_pay8 (k0_pay2 x) (lane q) = _
  pointwise [k0_pay8, k0_pay2, lane]
  exact reduce_image reduces_S1x128x128x64_S64 _ q

theorem redOut_one (x : Vec Ideal S1x128x128x64 .bf16) (q : Fin 64) :
    redOut (F := Ideal) x (ix4 0 0 1 q) = ∑ r : Fin 128, ∑ s : Fin 128, x (ix4 0 r s q) * x (ix4 0 r s q) := by
  show k0_pay9 (k0_pay2 x) (lane q) = _
  pointwise [k0_pay9, k0_pay2, lane]
  exact reduce_image reduces_S1x128x128x64_S64 _ q

/-- A sum of a function of row and column over one quarter. -/
def part (f : ℕ → ℕ → EReal) (a b : ℕ) : EReal := ∑ r : Fin 128, ∑ s : Fin 128, f (128 * a + r.val) (128 * b + s.val)

theorem sum_halves (g : ℕ → EReal) : ∑ r : Fin 256, g r.val = ∑ r : Fin 128, g (128 * 0 + r.val) + ∑ r : Fin 128, g (128 * 1 + r.val) := by
  rw [show (∑ r : Fin 256, g r.val) = ∑ r : Fin (128 + 128), g r.val from rfl, Fin.sum_univ_add]
  simp [Nat.add_comm]

theorem sum_quarters (f : ℕ → ℕ → EReal) : ∑ r : Fin 256, ∑ s : Fin 256, f r.val s.val
    = part f 0 0 + part f 0 1 + (part f 1 0 + part f 1 1) := by
  rw [sum_halves (fun r => ∑ s : Fin 256, f r s.val)]
  have h : ∀ r, ∑ s : Fin 256, f r s.val = ∑ s : Fin 128, f r (128 * 0 + s.val) + ∑ s : Fin 128, f r (128 * 1 + s.val) :=
    fun r => sum_halves (f r)
  simp only [h, Finset.sum_add_distrib]
  rfl

/-- The four quarters of the devices across `x`, across `y`, across both, and of the device itself make the image. -/
theorem sum_devices (f : ℕ → ℕ → EReal) :
    part f ((px c).val / 2) ((px c).val % 2) + part f ((py c).val / 2) ((py c).val % 2)
      + part f ((pd c).val / 2) ((pd c).val % 2) + part f (c.val / 2) (c.val % 2)
      = ∑ r : Fin 256, ∑ s : Fin 256, f r.val s.val := by
  rw [sum_quarters, px_row, px_col, py_row, py_col, pd_row, pd_col]
  rcases row_cases c with h | h <;> rcases col_cases c with h' | h' <;> rw [h, h'] <;> dsimp only [Nat.sub_zero, Nat.sub_self, Nat.reduceSub] <;> abel

/-- The channel sums of device `c`'s quarter. -/
abbrev sums (c : Dev nD) := redOut (F := Ideal) (quarter X c)

theorem mean_at (q : Fin 64) : k0_pay19 (sums X (px c)) (sums X (py c)) (sums X (pd c)) (sums X c) (ix1 q) = meanK X q := by
  pointwise [k0_pay19, k0_pay18]
  simp only [sums, redOut_zero, quarter_at]
  exact congrArg (Ideal.div · _) (sum_devices c (fun r s => X r s q))

theorem dev_at (q : Fin 64) : k0_pay20 (sums X (px c)) (sums X (py c)) (sums X (pd c)) (sums X c) (ix1 q) = invK X q := by
  have hm := mean_at X c q
  revert hm
  pointwise [k0_pay20, k0_pay19, k0_pay18]
  intro hm
  rw [hm]
  simp only [sums, redOut_one, quarter_at]
  have h := sum_devices c (fun r s => X r s q * X r s q)
  unfold part at h
  rw [h]
  rfl

/-! ## The block -/

variable {X} (hX : Edged X)
include hX

theorem out_at (k : Vec Ideal S3x3x64 .bf16) (w : Vec Ideal S64x64 .bf16) (r s : Fin 128) (n : Fin 64) :
    outVal c (quarter X c) k w (inX X c) (inY X c) (inD X c) (sums X (px c)) (sums X (py c)) (sums X (pd c)) (sums X c) (ix4 0 r s n)
      = outK X (fun i j q => k (ix3 i j q)) (fun q n => w (ix2 q n)) (128 * (c.val / 2) + r) (128 * (c.val % 2) + s) n := by
  have hk : ∀ i j q, k0_pay21 (sums X (px c)) (sums X (py c)) (sums X (pd c)) (sums X c) k (ix3 i j q) = k (ix3 i j q) * invK X q := by
    intro i j q
    rw [← dev_at X c q]
    pointwise [k0_pay21]
  have hk0 : ∀ q, k0_pay24 (sums X (px c)) (sums X (py c)) (sums X (pd c)) (sums X c) k (ix4 0 0 0 q)
      = k0_pay21 (sums X (px c)) (sums X (py c)) (sums X (pd c)) (sums X c) k (ix3 0 0 q) := by
    intro q
    pointwise [k0_pay24]
  have hs : ∀ q, k0_pay31 k (ix1 q) = ∑ i : Fin 3, ∑ j : Fin 3, k (ix3 i j q) := by
    intro q
    pointwise [k0_pay31]
    exact reduce_taps reduces_S3x3x64_S64 _ q
  unfold outVal
  pointwise [k0_pay1]
  unfold outK
  refine congrArg₂ (· + ·) (by pointwise [k0_pay2]; rfl) (Finset.sum_congr rfl fun q _ => ?_)
  have ht := taps_at c hX (k0_pay21 (sums X (px c)) (sums X (py c)) (sums X (pd c)) (sums X c) k)
    (k0_pay24 (sums X (px c)) (sums X (py c)) (sums X (pd c)) (sums X c) k) hk0 r s q
  rw [show tapsOf (k0_pay21 (sums X (px c)) (sums X (py c)) (sums X (pd c)) (sums X c) k)
    = fun i j q => k (ix3 i j q) * invK X q from funext fun i => funext fun j => funext fun q => hk i j q] at ht
  rw [ht, mean_at, dev_at, hs]
  rfl

end Cert.KernelIdealProof

end
-- ==== Proof.Result.lean ====
/-
# What the kernel leaves in its result

Step `i` reads image `i` of a device's block of the batch, the taps and the matrix whole, and writes image `i` of the
result. So the result array of a device holds, image by image, the output block of that step.
-/
module

public import proofs.«01_k».proof.Proof.Launch
public import proofs.«01_k».proof.Proof.Quarter

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem index_x : ∀ (i : Fin 2) (a : Fin 4), win0_0.index (pt i) a = (![i.val, 0, 0, 0] : Fin 4 → ℕ) a := by decide +kernel
theorem index_o : ∀ (i : Fin 2) (a : Fin 4), win0_3.index (pt i) a = (![i.val, 0, 0, 0] : Fin 4 → ℕ) a := by decide +kernel
theorem index_k : ∀ (i : Fin 2) (a : Fin 3), win0_1.index (pt i) a = 0 := by decide +kernel
theorem index_w : ∀ (i : Fin 2) (a : Fin 2), win0_2.index (pt i) a = 0 := by decide +kernel

/-- An element of a block, in the array. -/
theorem emb_x (i : Fin 2) (r s : Fin 128) (q : Fin 64) :
    ((win0_0.rect (pt i)).emb (ix4 0 r s q : S1x128x128x64.Idx) : S2x128x128x64.Idx) = ix4 i r s q := by
  refine (eq_ix4 _).trans ?_
  congr 1 <;> apply Fin.ext <;> refine (Pipeline.Window.rect_emb_val win0_0 (pt i) _ _).trans ?_ <;> rw [index_x] <;> simp
theorem emb_o (i : Fin 2) (r s : Fin 128) (q : Fin 64) :
    ((win0_3.rect (pt i)).emb (ix4 0 r s q : S1x128x128x64.Idx) : S2x128x128x64.Idx) = ix4 i r s q := by
  refine (eq_ix4 _).trans ?_
  congr 1 <;> apply Fin.ext <;> refine (Pipeline.Window.rect_emb_val win0_3 (pt i) _ _).trans ?_ <;> rw [index_o] <;> simp
theorem emb_k (i : Fin 2) (y : S3x3x64.Idx) : ((win0_1.rect (pt i)).emb y : S3x3x64.Idx) = y :=
  funext fun a => Fin.ext (Pipeline.Window.rect_emb_val_of_index_zero win0_1 (pt i) a (index_k i a) y)
theorem emb_w (i : Fin 2) (y : S64x64.Idx) : ((win0_2.rect (pt i)).emb y : S64x64.Idx) = y :=
  funext fun a => Fin.ext (Pipeline.Window.rect_emb_val_of_index_zero win0_2 (pt i) a (index_w i a) y)

theorem xblk_at (c : Dev nD) (i : Fin 2) (r s : Fin 128) (q : Fin 64) :
    xblk m c i (ix4 0 r s q) = (m ((c : Thread nD τ).loc main_arg0) : Vec F S2x128x128x64 .bf16) (ix4 i r s q) :=
  congrArg (m ((c : Thread nD τ).loc main_arg0) : Vec F S2x128x128x64 .bf16) (emb_x i r s q)
theorem kblk_eq (c : Dev nD) (i : Fin 2) : kblk m c i = m ((c : Thread nD τ).loc main_arg1) :=
  funext fun y => congrArg (m ((c : Thread nD τ).loc main_arg1) : Vec F S3x3x64 .bf16) (emb_k i y)
theorem wblk_eq (c : Dev nD) (i : Fin 2) : wblk m c i = m ((c : Thread nD τ).loc main_arg2) :=
  funext fun y => congrArg (m ((c : Thread nD τ).loc main_arg2) : Vec F S64x64 .bf16) (emb_w i y)

/-- The result array of device `c`: image `i` is the output block of step `i`. -/
def resultA (c : Dev nD) : Vec F S2x128x128x64 .bf16 := fun y => outAt m c (y 0) (ix4 0 (y 1) (y 2) (y 3))

theorem resultA_at (c : Dev nD) (i : Fin 2) (r s : Fin 128) (q : Fin 64) : resultA m c (ix4 i r s q) = outAt m c i (ix4 0 r s q) := rfl

theorem flushed_eq (c : Dev nD) (t : Fin cfg0.N) :
    (dats m ρ 0 c).flushed 3 t = ((cfg0.win 3).blk t).view.read (Elt F) (resultA m c) := by
  obtain ⟨i, rfl⟩ : ∃ i : Fin 2, t = pt i := ⟨stepOf t, rfl⟩
  have key : ∀ y : S1x128x128x64.Idx, outAt m c i y = resultA m c ((win0_3.rect (pt i)).emb y : S2x128x128x64.Idx) := fun y => by
    have hy : y = ix4 0 (y 1) (y 2) (y 3) := (eq_ix4 y).trans (congrArg (ix4 · (y 1) (y 2) (y 3)) (Subsingleton.elim (α := Fin 1) _ _))
    rw [hy]
    exact ((congrArg (resultA m c) (emb_o i (y 1) (y 2) (y 3))).trans (resultA_at m c i (y 1) (y 2) (y 3))).symm
  exact funext key

theorem covered (y : S2x128x128x64.Idx) : ∃ t : Fin cfg0.N, (cfg0.win 3).flush t = true ∧ y ∈ ((cfg0.win 3).blk t).view.set := by
  have h : ((cfg0.win 3).blk (pt (y 0))).view.emb (ix4 0 (y 1) (y 2) (y 3) : S1x128x128x64.Idx) = y :=
    (emb_o (y 0) (y 1) (y 2) (y 3)).trans (eq_ix4 y).symm
  have hm := View.emb_mem_set (v := ((cfg0.win 3).blk (pt (y 0))).view) (ix4 0 (y 1) (y 2) (y 3) : S1x128x128x64.Idx)
  rw [h] at hm
  exact ⟨pt (y 0), flush0_3 _, hm⟩

theorem final_out (c : Dev nD) : finalA m ρ c 3 = resultA m c :=
  (dats m ρ 0 c).arrAt_eq_of_cover 3 (resultA m c) (fun t _ => flushed_eq m ρ c t) covered

/-- The run with its values: the result, and the arguments as they began. -/
theorem run_value : θ_run defs (onTc (τ := τ) (main (F := F))) ⟨m, fun _ => 0, ρ⟩ (fun r => ∀ c : Dev nD,
    r.2.mem ((c.tc : Thread nD τ).loc main_v1) = resultA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c 3).trans (final_out m ρ c), (h.1 c 0).trans (finalA_in m ρ c 0 rfl),
    (h.1 c 1).trans (finalA_in m ρ c 1 rfl), (h.1 c 2).trans (finalA_in m ρ c 2 rfl)⟩) (run_main m ρ)

end Cert.KernelIdealProof

end
-- ==== Proof.Whole.lean ====
/-
# What the reference computes

The reference normalises each image by its channel means and deviations, repeats its edges once, adds the nine taps, and
puts the activated channels through the matrix. Its result at a place is read here as a function of the image's plane.
-/
module

public import proofs.«01_k».proof.Proof.Gen.ReferenceIdeal.Run
public import proofs.«01_k».proof.Proof.Quarter

@[expose] public section

noncomputable section

namespace Cert.ReferenceIdealProof

open Cert.ReferenceIdeal Cert.ReferenceIdeal.Gen Cert.ReferenceIdeal.Value
open Idealize.ShloMosaic Idealize.ShloMosaic.TcCoe Idealize.ShloMosaic.StableHlo
open Cert.KernelIdealProof (Plane Edged total meanK)

/-- An image of the batch as a plane: past its last row and column it goes on with their values. -/
def planeOf (x : Vec Ideal S2x256x256x64 .bf16) (i : Fin 2) : Plane := fun r s q =>
  x (ix4 i ⟨min r 255, by omega⟩ ⟨min s 255, by omega⟩ q)

theorem planeOf_at (x : Vec Ideal S2x256x256x64 .bf16) (i : Fin 2) {r s : ℕ} (hr : r < 256) (hs : s < 256) (q : Fin 64) :
    planeOf x i r s q = x (ix4 i ⟨r, hr⟩ ⟨s, hs⟩ q) := by
  unfold planeOf
  congr 2 <;> (apply Fin.ext; simp only; omega)

theorem planeOf_edged (x : Vec Ideal S2x256x256x64 .bf16) (i : Fin 2) : Edged (planeOf x i) :=
  ⟨fun _ _ => rfl, fun _ _ => rfl⟩

/-! ## The reference's function of a plane -/

/-- A channel's deviation over the image. -/
def devR (X : Plane) (q : Fin 64) : EReal :=
  Ideal.sqrt (Ideal.div (total (fun r s q => (X r s q - meanK X q) * (X r s q - meanK X q)) q) (Ideal.ofBits .f32 1199570944#32)
    + Ideal.ofBits .f32 925353388#32)
/-- The normalised plane. -/
def normR (X : Plane) : Plane := fun r s q => Ideal.div (X r s q - meanK X q) (devR X q)
/-- The nine taps on a plane, row by row. -/
def convR (Y : Plane) (K : Fin 3 → Fin 3 → Fin 64 → EReal) (r s : ℕ) (q : Fin 64) : EReal :=
  Y (r - 1) (s - 1) q * K 0 0 q + Y (r - 1) s q * K 0 1 q + Y (r - 1) (s + 1) q * K 0 2 q
    + Y r (s - 1) q * K 1 0 q + Y r s q * K 1 1 q + Y r (s + 1) q * K 1 2 q
    + Y (r + 1) (s - 1) q * K 2 0 q + Y (r + 1) s q * K 2 1 q + Y (r + 1) (s + 1) q * K 2 2 q
/-- The whole. -/
def outR (X : Plane) (K : Fin 3 → Fin 3 → Fin 64 → EReal) (W : Fin 64 → Fin 64 → EReal) (r s : ℕ) (n : Fin 64) : EReal :=
  X r s n + ∑ q : Fin 64, Ideal.div (convR (normR X) K r s q) (1 + Ideal.exp (-convR (normR X) K r s q)) * W q n

/-! ## The reference's arrays, place by place -/

theorem reduce_batch (h : (⟨4, ![2, 256, 256, 64]⟩ : Shape).ReducesTo [1, 2] ⟨2, ![2, 64]⟩)
    (v : (⟨4, ![2, 256, 256, 64]⟩ : Shape).Idx → EReal) (i : Fin 2) (q : Fin 64) :
    Ideal.hostReduceAdd h v 0 (ix2 i q) = ∑ r : Fin 256, ∑ s : Fin 256, v (ix4 i r s q) := by
  have hd : ∀ (a : Fin 2) (b c : Fin 256) (d : Fin 64), h.drop (ix4 a b c d) = ix2 i q ↔ a = i ∧ d = q := fun a b c d => by
    have hv : (h.drop (ix4 a b c d) 0 : Nat) = a.val := h.drop_apply_val_of_eq (ix4 a b c d) 0 0
    have hw : (h.drop (ix4 a b c d) 1 : Nat) = d.val := h.drop_apply_val_of_eq (ix4 a b c d) 1 3
    constructor
    · intro e; rw [e] at hv hw; exact ⟨Fin.ext hv.symm, Fin.ext hw.symm⟩
    · rintro ⟨rfl, rfl⟩; exact (eq_ix2 _).trans (congrArg₂ ix2 (Fin.ext hv) (Fin.ext hw))
  unfold Ideal.hostReduceAdd
  rw [zero_add, Finset.sum_filter, sum_idx4]
  simp only [hd, ite_and, Finset.sum_ite_eq', Finset.sum_ite_irrel, Finset.sum_const_zero, Finset.mem_univ, if_true]

theorem ofBits_size : Ideal.ofBits .f32 1199570944#32 = ((65536 : ℝ) : EReal) := by
  simp [Ideal.ofBits, Ideal.ieee]
  rw [← EReal.coe_mul]
  norm_num

theorem size_sub : Ideal.ofBits .f32 1199570944#32 - (FloatOps.sitofp (F := Ideal) .f32 (0#32) : EReal) = Ideal.ofBits .f32 1199570944#32 := by
  show _ - (((0#32 : BitVec 32).toInt : ℝ) : EReal) = _
  simp

theorem size_pos : (0 : EReal) < Ideal.ofBits .f32 1199570944#32 := by
  rw [ofBits_size]; exact_mod_cast (by norm_num : (0 : ℝ) < 65536)

variable (V : Valuation τ sig (Elt Ideal))

/-- Image `i` of the first argument. -/
abbrev img (i : Fin 2) : Plane := planeOf (V (Proc.devRef .tc main_arg0)) i
/-- The second argument, -/
abbrev kern : Fin 3 → Fin 3 → Fin 64 → EReal := fun i j q => (V (Proc.devRef .tc main_arg1) : Vec Ideal S3x3x64 .bf16) (ix3 i j q)
/-- and the third. -/
abbrev mat : Fin 64 → Fin 64 → EReal := fun q n => (V (Proc.devRef .tc main_arg2) : Vec Ideal S64x64 .bf16) (ix2 q n)

theorem img_at (i : Fin 2) (r s : Fin 256) (q : Fin 64) :
    (V (Proc.devRef .tc main_arg0) : Vec Ideal S2x256x256x64 .bf16) (ix4 i r s q) = img V i r s q :=
  (planeOf_at _ i r.isLt s.isLt q).symm

theorem sum_img (i : Fin 2) (q : Fin 64) :
    Ideal.hostReduceAdd reducesTo_S2x256x256x64_S2x64_d1_2 (extf (F := Ideal) .f32 (V (Proc.devRef .tc main_arg0) : FVec Ideal S2x256x256x64 .bf16) bitsLt_bf16_f32) 0 (ix2 i q)
      = total (img V i) q := by
  refine (reduce_batch _ _ i q).trans ?_
  refine Finset.sum_congr rfl fun r _ => Finset.sum_congr rfl fun s _ => ?_
  exact img_at V i r s q

theorem diff_at (i : Fin 2) (r s : Fin 256) (q : Fin 64) :
    res_main_call0_v5 V (ix4 i r s q) = (img V i r s q - meanK (img V i) q : EReal) := by
  pointwise [res_main_call0_v5, res_main_v0]
  rw [sum_img, img_at V i r s q]
  rfl

theorem sum_sq (i : Fin 2) (q : Fin 64) :
    Ideal.hostReduceAdd reducesTo_S2x256x256x64_S2x64_d1_2 (mulf (res_main_call0_v5 V) (res_main_call0_v5 V)) 0 (ix2 i q)
      = total (fun r s q => (img V i r s q - meanK (img V i) q) * (img V i r s q - meanK (img V i) q)) q := by
  refine (reduce_batch _ _ i q).trans ?_
  refine Finset.sum_congr rfl fun r _ => Finset.sum_congr rfl fun s _ => ?_
  exact congrArg₂ (· * ·) (diff_at V i r s q) (diff_at V i r s q)

theorem norm_at (i : Fin 2) (r s : Fin 256) (q : Fin 64) :
    res_main_v14 V (ix4 i r s q) = (normR (img V i) r s q : EReal) := by
  pointwise [res_main_v14, res_main_v0, res_main_call0_v8]
  rw [size_sub, if_pos size_pos, sum_img, sum_sq, img_at V i r s q]
  rfl

theorem normR_row (X : Plane) (hX : Edged X) (s : ℕ) (q : Fin 64) : normR X 256 s q = normR X 255 s q := by
  unfold normR; rw [hX.row]
theorem normR_col (X : Plane) (hX : Edged X) (r : ℕ) (q : Fin 64) : normR X r 256 q = normR X r 255 q := by
  unfold normR; rw [hX.col]

theorem rows_at (i : Fin 2) (p : Fin 258) (s : Fin 256) (q : Fin 64) :
    res_main_v17 V (ix4 i p s q) = (normR (img V i) (p - 1) s q : EReal) := by
  pointwise [res_main_v17]
  have hp := p.isLt
  by_cases h1 : p.val < 1
  · rw [dif_pos h1, norm_at]; congr 1; simp only; omega
  rw [dif_neg h1]
  by_cases h2 : p.val - 1 < 256
  · rw [dif_pos h2, norm_at]
  · rw [dif_neg h2, norm_at]
    have h3 : p.val - 1 = 256 := by omega
    simp only [h3, Nat.sub_self, Nat.add_zero]
    exact (normR_row _ (planeOf_edged _ i) _ q).symm

theorem pad_at (i : Fin 2) (p t : Fin 258) (q : Fin 64) :
    res_main_v20 V (ix4 i p t q) = (normR (img V i) (p - 1) (t - 1) q : EReal) := by
  pointwise [res_main_v20]
  have ht := t.isLt
  by_cases h1 : t.val < 1
  · rw [dif_pos h1, rows_at]; congr 1; simp only; omega
  rw [dif_neg h1]
  by_cases h2 : t.val - 1 < 256
  · rw [dif_pos h2, rows_at]
  · rw [dif_neg h2, rows_at]
    have h3 : t.val - 1 = 256 := by omega
    simp only [h3, Nat.sub_self, Nat.add_zero]
    exact (normR_col _ (planeOf_edged _ i) _ q).symm

theorem conv_at (i : Fin 2) (r s : Fin 256) (q : Fin 64) :
    res_main_v84 V (ix4 i r s q) = (convR (normR (img V i)) (kern V) r s q : EReal) := by
  pointwise [res_main_v84, res_main_v1]
  simp only [pad_at]
  unfold convR
  simp only [show 1 + r.val - 1 = r.val by omega, show 2 + r.val - 1 = r.val + 1 by omega,
    show 1 + s.val - 1 = s.val by omega, show 2 + s.val - 1 = s.val + 1 by omega]

/-- The reference's result. -/
abbrev resR : FVec Ideal S2x256x256x64 .bf16 :=
  truncf .bf16 (addf (res_main_v0 V) (shapeCast _ (Host.dotGeneral dot_S131072x64_S64x64_S131072x64_1_0_0_1_n_n none
    (shapeCast _ (Host.divf (res_main_v84 V) (addf (broadcastInDim S2x256x256x64 ![] bcast_S_S2x256x256x64
      (constant S_ .f32 0x3F800000#32)) (Host.exp (Host.negf (res_main_v84 V))))) shapeCasts_S2x256x256x64_S131072x64)
    (extf .f32 (V (Proc.devRef .tc main_arg2)) bitsLt_bf16_f32)) shapeCasts_S131072x64_S2x256x256x64)) bitsLt_bf16_f32

theorem result_at (i : Fin 2) (r s : Fin 256) (n : Fin 64) :
    resR V (ix4 i r s n) = outR (img V i) (kern V) (mat V) r s n := by
  pointwise [resR, res_main_v0]
  simp only [conv_at]
  rw [img_at V i r s n]
  rfl

end Cert.ReferenceIdealProof

end
-- ==== Proof.Equation.lean ====
/-
# The two functions of a plane agree

On a plane of real numbers and real taps, the kernel's function and the reference's are one. The mean of the squares less
the square of the mean is the mean of the squared differences, so the two deviations agree. Scaling the taps and taking off
the mean's share afterwards is the same as normalising the plane first. The two forms of the activation differ in where the
division stands. The matrix may hold anything.
-/
module

public import proofs.«01_k».proof.Proof.Whole

@[expose] public section

noncomputable section

namespace Cert.KernelIdealProof

open Idealize.ShloMosaic
open Cert.ReferenceIdealProof (devR normR convR outR ofBits_size size_pos)

theorem coe_sum {ι : Type} (s : Finset ι) (f : ι → ℝ) : ((∑ i ∈ s, f i : ℝ) : EReal) = ∑ i ∈ s, (f i : EReal) := by
  classical
  induction s using Finset.induction_on with
  | empty => simp
  | insert a t h ih => rw [Finset.sum_insert h, Finset.sum_insert h, EReal.coe_add, ih]

/-- The small number under the root. -/
def epsR : ℝ := 10995116 / 2 ^ 40

theorem ofBits_eps : Ideal.ofBits .f32 925353388#32 = ((epsR : ℝ) : EReal) := by
  unfold epsR
  simp [Ideal.ofBits, Ideal.ieee]
  rw [← EReal.coe_mul]
  norm_num

theorem eps_pos : 0 < epsR := by unfold epsR; positivity

variable (x : ℕ → ℕ → Fin 64 → ℝ) (k : Fin 3 → Fin 3 → Fin 64 → ℝ)

/-- The plane of a real function, -/
abbrev up : Plane := fun r s q => (x r s q : EReal)
/-- and its taps. -/
abbrev upK : Fin 3 → Fin 3 → Fin 64 → EReal := fun i j q => (k i j q : EReal)

/-- A channel's mean, -/
def mu (q : Fin 64) : ℝ := (∑ r : Fin 256, ∑ s : Fin 256, x r.val s.val q) / 65536
/-- its variance, -/
def va (q : Fin 64) : ℝ := (∑ r : Fin 256, ∑ s : Fin 256, (x r.val s.val q - mu x q) * (x r.val s.val q - mu x q)) / 65536
/-- its deviation. -/
def de (q : Fin 64) : ℝ := Real.sqrt (va x q + epsR)

theorem total_up (y : ℕ → ℕ → Fin 64 → ℝ) (q : Fin 64) :
    total (up y) q = ((∑ r : Fin 256, ∑ s : Fin 256, y r.val s.val q : ℝ) : EReal) := by
  unfold total; rw [coe_sum]; exact Finset.sum_congr rfl fun r _ => (coe_sum _ _).symm

theorem div_size (y : ℝ) : Ideal.div (y : EReal) (Ideal.ofBits .f32 1199570944#32) = ((y / 65536 : ℝ) : EReal) := by
  rw [ofBits_size, Ideal.div_coe (by norm_num : (65536 : ℝ) ≠ 0), ← EReal.coe_mul, mul_one_div]

theorem mean_up (q : Fin 64) : meanK (up x) q = (mu x q : EReal) := by
  unfold meanK; rw [total_up, div_size]; rfl

theorem va_nonneg (q : Fin 64) : 0 ≤ va x q :=
  div_nonneg (Finset.sum_nonneg fun _ _ => Finset.sum_nonneg fun _ _ => mul_self_nonneg _) (by norm_num)

theorem va_eps (q : Fin 64) : 0 < va x q + epsR := add_pos_of_nonneg_of_pos (va_nonneg x q) eps_pos

theorem de_pos (q : Fin 64) : 0 < de x q := Real.sqrt_pos.mpr (va_eps x q)

/-- The mean of the squares less the square of the mean is the variance. -/
theorem va_eq (q : Fin 64) :
    (∑ r : Fin 256, ∑ s : Fin 256, x r.val s.val q * x r.val s.val q) / 65536 - mu x q * mu x q = va x q := by
  have h : ∀ r s : Fin 256, (x r.val s.val q - mu x q) * (x r.val s.val q - mu x q)
      = x r.val s.val q * x r.val s.val q - 2 * mu x q * x r.val s.val q + mu x q * mu x q := fun r s => by ring
  have hm : ∑ r : Fin 256, ∑ s : Fin 256, x r.val s.val q = 65536 * mu x q := by unfold mu; ring
  unfold va
  simp only [h, Finset.sum_add_distrib, Finset.sum_sub_distrib, ← Finset.mul_sum, hm, Finset.sum_const, Finset.card_univ,
    Fintype.card_fin, nsmul_eq_mul]
  push_cast
  ring

theorem inv_up (q : Fin 64) : invK (up x) q = (((de x q)⁻¹ : ℝ) : EReal) := by
  unfold invK
  rw [mean_up, show (fun r s q => up x r s q * up x r s q) = up (fun r s q => x r s q * x r s q) from
    funext fun _ => funext fun _ => funext fun _ => (EReal.coe_mul _ _).symm, total_up, div_size, ← EReal.coe_mul, ← EReal.coe_sub,
    va_eq, ofBits_eps, ← EReal.coe_add, Ideal.rsqrt_coe, if_neg (va_eps x q).not_gt, if_neg (va_eps x q).ne']
  rfl

theorem dev_up (q : Fin 64) : devR (up x) q = ((de x q : ℝ) : EReal) := by
  unfold devR
  rw [show (fun r s q' => (up x r s q' - meanK (up x) q') * (up x r s q' - meanK (up x) q'))
      = up (fun r s q => (x r s q - mu x q) * (x r s q - mu x q)) from
    funext fun _ => funext fun _ => funext fun q' => by rw [mean_up, ← EReal.coe_sub, ← EReal.coe_mul], total_up, div_size, ofBits_eps,
    ← EReal.coe_add, Ideal.sqrt_coe]
  exact if_neg (va_eps x q).not_gt

theorem norm_up (r s : ℕ) (q : Fin 64) : normR (up x) r s q = (((x r s q - mu x q) * (de x q)⁻¹ : ℝ) : EReal) := by
  unfold normR
  rw [mean_up, dev_up, Ideal.div_coe (de_pos x q).ne', ← EReal.coe_sub, ← EReal.coe_mul, one_div]

/-- The nine taps of the reference, as a real number. -/
def cv (r s : ℕ) (q : Fin 64) : ℝ :=
  let y := fun r s => (x r s q - mu x q) * (de x q)⁻¹
  y (r - 1) (s - 1) * k 0 0 q + y (r - 1) s * k 0 1 q + y (r - 1) (s + 1) * k 0 2 q
    + y r (s - 1) * k 1 0 q + y r s * k 1 1 q + y r (s + 1) * k 1 2 q
    + y (r + 1) (s - 1) * k 2 0 q + y (r + 1) s * k 2 1 q + y (r + 1) (s + 1) * k 2 2 q

theorem conv_up (r s : ℕ) (q : Fin 64) : convR (normR (up x)) (upK k) r s q = (cv x k r s q : EReal) := by
  unfold convR cv
  simp only [norm_up]
  push_cast
  rfl

theorem pre_up (r s : ℕ) (q : Fin 64) : preK (up x) (upK k) r s q = (cv x k r s q : EReal) := by
  have hk : ∑ i : Fin 3, ∑ j : Fin 3, upK k i j q = ((∑ i : Fin 3, ∑ j : Fin 3, k i j q : ℝ) : EReal) := by
    rw [coe_sum]; exact Finset.sum_congr rfl fun i _ => (coe_sum _ _).symm
  unfold preK taps tapCol
  rw [mean_up, hk]
  simp only [inv_up, ← EReal.coe_mul, ← EReal.coe_add, ← EReal.coe_sub]
  unfold cv
  simp only [Fin.sum_univ_three]
  congr 1
  ring

theorem act_up (z : ℝ) : act (z : EReal) = Ideal.div (z : EReal) (1 + Ideal.exp (-(z : EReal))) := by
  unfold act
  rw [zero_sub]
  refine Ideal.mul_one_div ?_
  rw [← EReal.coe_neg, Ideal.exp_coe, ← EReal.coe_one, ← EReal.coe_add]
  exact_mod_cast (add_pos one_pos (Real.exp_pos _)).ne'

/-- The kernel's function is the reference's. -/
theorem out_eq (X : Plane) (K : Fin 3 → Fin 3 → Fin 64 → EReal) (W : Fin 64 → Fin 64 → EReal)
    (hX : ∀ r s q, ∃ y : ℝ, X r s q = y) (hK : ∀ i j q, ∃ y : ℝ, K i j q = y) (r s : ℕ) (n : Fin 64) :
    outK X K W r s n = outR X K W r s n := by
  choose x hx using hX
  choose k hk using hK
  obtain rfl : X = up x := funext fun r => funext fun s => funext fun q => hx r s q
  obtain rfl : K = upK k := funext fun i => funext fun j => funext fun q => hk i j q
  unfold outK outR
  refine congrArg _ (Finset.sum_congr rfl fun q _ => ?_)
  rw [pre_up, conv_up, act_up]

end Cert.KernelIdealProof

end
-- ==== Proof.Agree.lean ====
/-
# The kernel's result and the reference's

Four devices hold the quarters of one batch. Then each step's blocks are quarters of that image's plane, the result a
device leaves is its quarter of the kernel's function of the plane, and on finite inputs that is the reference's result.
-/
module

public import Idealize.ShloMosaic.Lib.Layout
public import proofs.«01_k».proof.Pre_finite_KernelIdeal
public import proofs.«01_k».proof.Proof.Result
public import proofs.«01_k».proof.Proof.Equation

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.ReferenceIdealProof (planeOf planeOf_at planeOf_edged)

abbrev Batch : Type := Vec Ideal Cert.ReferenceIdeal.S2x256x256x64 .bf16

/-- Every element of an array is a real number. -/
def AllReal {S : Shape} (v : Vec Ideal S .bf16) : Prop := ∀ y : S.Idx, ∃ z : ℝ, (v y : EReal) = z

/-- Device `c`'s part of an array cut along rows and columns. -/
abbrev share (x : Batch) (c : Dev nD) : Vec Ideal S2x128x128x64 .bf16 :=
  Layout.blockN ⟨4, ![2, 128, 128, 64]⟩ ⟨4, ![2, 256, 256, 64]⟩ (Layout.meshBlock [2, 2] ![[], [0], [1], []] c) x

/-- The memory's first arguments are the quarters of a batch. -/
def Holds (m : (ℓ : Loc nD τ sig) → Buf (Elt Ideal) ℓ) (x : Batch) : Prop := ∀ c : Dev nD,
  m ((c.tc : Thread nD τ).loc main_arg0) = share x c

theorem mesh_row : ∀ c : Dev nD, Layout.meshLin [2, 2] c.val [0] = c.val / 2 := by decide
theorem mesh_col : ∀ c : Dev nD, Layout.meshLin [2, 2] c.val [1] = c.val % 2 := by decide

theorem row_lt (c : Dev nD) (r : Fin 128) : 128 * (c.val / 2) + r.val < 256 := by rcases row_cases c with h | h <;> omega
theorem col_lt (c : Dev nD) (s : Fin 128) : 128 * (c.val % 2) + s.val < 256 := by omega

/-- A part, by place. -/
theorem share_at (x : Batch) (c : Dev nD) (i : Fin 2) (r s : Fin 128) (q : Fin 64) :
    share x c (ix4 i r s q)
      = x (ix4 i ⟨128 * (c.val / 2) + r.val, row_lt c r⟩ ⟨128 * (c.val % 2) + s.val, col_lt c s⟩ q) := by
  rw [share, Layout.blockN_apply]
  refine congrArg x ((eq_ix4 _).trans ?_)
  have h1 := mesh_row c
  have h2 := mesh_col c
  congr 1 <;> apply Fin.ext <;> rw [Layout.TilesN.idx_val]
  · show 0 * 2 + i.val = i.val; omega
  · show Layout.meshLin [2, 2] c.val [0] * 128 + r.val = _; simp only; omega
  · show Layout.meshLin [2, 2] c.val [1] * 128 + s.val = _; simp only; omega
  · show 0 * 64 + q.val = q.val; omega

variable {m : (ℓ : Loc nD τ sig) → Buf (Elt Ideal) ℓ} {x : Batch} (hx : Holds m x)
include hx

theorem xblk_quarter (c : Dev nD) (i : Fin 2) : xblk m c i = quarter (planeOf x i) c := by
  have key : ∀ (a : Fin 1) (r s : Fin 128) (q : Fin 64), xblk m c i (ix4 a r s q) = quarter (planeOf x i) c (ix4 a r s q) := fun a r s q => by
    rw [show a = 0 from Subsingleton.elim _ _, xblk_at, hx c, share_at, quarter_at, planeOf_at x i (row_lt c r) (col_lt c s)]
  exact funext fun y => by rw [eq_ix4 y]; exact key _ _ _ _

/-- A device's result, by place. -/
theorem resultA_eq (c : Dev nD) (i : Fin 2) (r s : Fin 128) (n : Fin 64) :
    resultA m c (ix4 i r s n) = outK (planeOf x i) (fun i j q => (m ((c : Thread nD τ).loc main_arg1) : Vec Ideal S3x3x64 .bf16) (ix3 i j q))
      (fun q n => (m ((c : Thread nD τ).loc main_arg2) : Vec Ideal S64x64 .bf16) (ix2 q n)) (128 * (c.val / 2) + r) (128 * (c.val % 2) + s) n := by
  rw [resultA_at, outAt, kblk_eq, wblk_eq]
  show outVal c (xblk m c i) _ _ (outOf (px c) (xblk m (px c) i) .hx) (outOf (py c) (xblk m (py c) i) .hy)
    (outOf (pd c) (xblk m (pd c) i) .hd) (redOut (xblk m (px c) i)) (redOut (xblk m (py c) i)) (redOut (xblk m (pd c) i))
    (redOut (xblk m c i)) _ = _
  simp only [xblk_quarter hx]
  exact out_at c (planeOf_edged x i) _ _ r s n

/-! ## Finite inputs -/

omit hx in
theorem ofBits_inf : Ideal.ofBits .f32 2139095040#32 = ⊤ := by simp [Ideal.ofBits, Ideal.ieee]

omit hx in
theorem real_of_below (v : EReal) (h : Ideal.cmp .olt (max v (-v)) (Ideal.ofBits .f32 2139095040#32) = 1#1) : ∃ y : ℝ, v = y := by
  rw [ofBits_inf] at h
  have hlt : max v (-v) < ⊤ := by
    by_contra hn
    simp [Ideal.cmp, hn] at h
  refine ⟨v.toReal, (EReal.coe_toReal (fun e => ?_) fun e => ?_).symm⟩ <;> subst e <;> simp at hlt

omit hx in
/-- The precondition's two arrays being all ones, the elements are real. -/
theorem real_of_pre [hP : Cert.Pre_finite_KernelIdeal.Facts] (a : Vec Ideal S2x128x128x64 .bf16) (k : Vec Ideal S3x3x64 .bf16) (w : Vec Ideal S64x64 .bf16)
    (h0 : (Cert.Pre_finite_KernelIdeal.fn (F := Ideal) a k w).1 = fun _ => 1#1)
    (h1 : (Cert.Pre_finite_KernelIdeal.fn (F := Ideal) a k w).2 = fun _ => 1#1) :
    AllReal a ∧ AllReal k :=
  ⟨fun y => real_of_below (a y) (congrFun h0 y), fun y => real_of_below (k y) (congrFun h1 y)⟩

omit hx in
/-- Every place of the plane is some device's. -/
theorem place (r : Fin 256) (s : Fin 256) : ∃ (c : Dev nD) (r' s' : Fin 128), 128 * (c.val / 2) + r'.val = r.val ∧ 128 * (c.val % 2) + s'.val = s.val :=
  ⟨⟨2 * (r.val / 128) + s.val / 128, by show _ < 4; omega⟩, ⟨r.val % 128, by omega⟩, ⟨s.val % 128, by omega⟩, by dsimp only; omega, by dsimp only; omega⟩

/-- With every device's part real the planes are. -/
theorem plane_real (h : ∀ c : Dev nD, AllReal (S := S2x128x128x64) (m ((c.tc : Thread nD τ).loc main_arg0)))
    (i : Fin 2) (r s : ℕ) (q : Fin 64) : ∃ z : ℝ, planeOf x i r s q = z := by
  have real : ∀ (r s : Fin 256), ∃ z : ℝ, x (ix4 i r s q) = z := fun r s => by
    obtain ⟨c, r', s', hr, hs⟩ := place r s
    obtain ⟨z, hz⟩ := h c (ix4 i r' s' q)
    rw [hx c, share_at] at hz
    refine ⟨z, Eq.trans ?_ hz⟩
    congr 2 <;> exact Fin.ext (by simp only; omega)
  exact real _ _

/-- On finite inputs each device's result is its part of the reference's. -/
theorem result_part
    (V : Valuation Cert.ReferenceIdeal.τ Cert.ReferenceIdeal.sig (Elt Ideal))
    (hV : V (Proc.devRef .tc Cert.ReferenceIdeal.main_arg0) = x)
    (hk : ∀ c : Dev nD, m ((c.tc : Thread nD τ).loc main_arg1) = V (Proc.devRef .tc Cert.ReferenceIdeal.main_arg1))
    (hw : ∀ c : Dev nD, m ((c.tc : Thread nD τ).loc main_arg2) = V (Proc.devRef .tc Cert.ReferenceIdeal.main_arg2))
    (h : ∀ c : Dev nD, AllReal (S := S2x128x128x64) (m ((c.tc : Thread nD τ).loc main_arg0)))
    (h' : ∀ c : Dev nD, AllReal (S := S3x3x64) (m ((c.tc : Thread nD τ).loc main_arg1))) (c : Dev nD) :
    resultA m c = share (Cert.ReferenceIdealProof.resR V) c := by
  have key : ∀ (i : Fin 2) (r s : Fin 128) (n : Fin 64), resultA m c (ix4 i r s n) = share (Cert.ReferenceIdealProof.resR V) c (ix4 i r s n) := fun i r s n => by
    rw [resultA_eq hx, share_at, Cert.ReferenceIdealProof.result_at,
      out_eq _ _ _ (plane_real hx h i) (fun _ _ _ => h' c _), hk c, hw c, Cert.ReferenceIdealProof.img, hV]
  exact funext fun y => by rw [eq_ix4 y]; exact key _ _ _ _

end Cert.KernelIdealProof

end
-- ==== Proof.lean ====
/-
# The certificate

The run of the kernel (Proof/Launch.lean, Proof/Result.lean) and of the reference (Proof/Gen/ReferenceIdeal/Run.lean), read as
the claims; Proof/Agree.lean says that the two results agree.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agree
public import Idealize.ShloMosaic.Adequacy
public import Idealize.ShloMosaic.Init

@[expose] public section

noncomputable section

namespace Cert.Proof

open Idealize.ShloMosaic Idealize.SL.Sem

/-- The kernel's program over bit patterns and its idealization have one text: one table of bodies, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, a => rfl

/-- and so one table of labels. -/
theorem defs_eq : Cert.Kernel.defs (F := Bits) = Cert.KernelIdeal.defs (F := Bits) := by
  unfold Cert.Kernel.defs Cert.KernelIdeal.defs
  rw [bodies_eq]; rfl

/-- So the kernel's frame over bit patterns is the run over any floats, read there. -/
theorem frame_kernel : Cert.quiescent_Kernel := by
  intro m g _
  rw [defs_eq]
  exact Cert.KernelIdealProof.run_frame (F := Bits) m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On finite arguments every device leaves its part of the array the reference leaves. -/
theorem equal [hP : Cert.Pre_finite_KernelIdeal.Facts] : Cert.algebraic_KernelIdeal_ReferenceIdeal_pre_finite_KernelIdeal := by
  intro m g m' g' hpre hargs
  let V := StableHlo.launchContents m' (0 : Dev Cert.ReferenceIdeal.nD)
  have hreal := fun c => Cert.KernelIdealProof.real_of_pre _ _ _ (hpre c).1 (hpre c).2
  have hpart := Cert.KernelIdealProof.result_part (m := m) (fun c => (hargs c).1) V rfl
    (fun c => (hargs c).2.1) (fun c => (hargs c).2.2) (fun c => (hreal c).1) (fun c => (hreal c).2)
  refine ⟨Cert.ReferenceIdealProof.resR V, ?_, ?_⟩
  · refine (θ_run Cert.KernelIdeal.defs _ _).mono (fun r h c => ?_) (Cert.KernelIdealProof.run_value (F := Ideal) m g)
    exact ⟨(h c).1.trans (hpart c), (h c).2⟩
  · exact (θ_run Cert.ReferenceIdeal.defs _ _).mono (fun r h => h 0) (Cert.ReferenceIdeal.Value.run (F := Ideal) m' g')

theorem facts_kernel : Cert.Pre_finite_KernelIdeal.Facts := ⟨by decide, by decide, by decide⟩
theorem facts_reference : Cert.Pre_finite_ReferenceIdeal.Facts := ⟨by decide, by decide, by decide⟩

theorem claim : Cert.Claim := ⟨Cert.Kernel.Gen.facts, Cert.KernelIdeal.Gen.facts, Cert.ReferenceIdeal.Gen.facts, facts_kernel, facts_reference,
  frame_kernel, fun m g _ => Cert.KernelIdealProof.run_frame (F := Ideal) m g, fun m g _ => Cert.KernelIdealProof.run_frame (F := Ideal) m g,
  frame_reference, fun m g _ => frame_reference m g ⟨⟩, trivial, equal (hP := facts_kernel)⟩

end Cert.Proof

end
